-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Reference1Ideal (m : (ℓ : Loc Cert.Reference1Ideal.nD Cert.Reference1Ideal.τ Cert.Reference1Ideal.sig) → Buf (Elt Ideal) ℓ) : Prop :=
  True

def Pre_Kernel0 (m : (ℓ : Loc Cert.Kernel0.nD Cert.Kernel0.τ Cert.Kernel0.sig) → Buf (Elt Bits) ℓ) : Prop :=
  True

def Pre_Kernel0Ideal (m : (ℓ : Loc Cert.Kernel0Ideal.nD Cert.Kernel0Ideal.τ Cert.Kernel0Ideal.sig) → Buf (Elt Ideal) ℓ) : Prop :=
  True

def Pre_Reference0Ideal (m : (ℓ : Loc Cert.Reference0Ideal.nD Cert.Reference0Ideal.τ Cert.Reference0Ideal.sig) → Buf (Elt Ideal) ℓ) : Prop :=
  True

def Pre_Kernel3 [hPre_fast_set : Cert.Pre_fast_set.Facts] (m : (ℓ : Loc Cert.Kernel3.nD Cert.Kernel3.τ Cert.Kernel3.sig) → Buf (Elt Bits) ℓ) : Prop :=
  ∀ c : Dev Cert.Kernel3.nD,
    (Cert.Pre_fast_set.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7)) (m ((c.tc : Thread Cert.Kernel3.nD Cert.Kernel3.τ).loc Cert.Kernel3.main_arg8)) (m ((c.tc : Thread Cert.Kernel3.nD Cert.Kernel3.τ).loc Cert.Kernel3.main_arg9)) (m ((c.tc : Thread Cert.Kernel3.nD Cert.Kernel3.τ).loc Cert.Kernel3.main_arg10)) (m ((c.tc : Thread Cert.Kernel3.nD Cert.Kernel3.τ).loc Cert.Kernel3.main_arg11)) (m ((c.tc : Thread Cert.Kernel3.nD Cert.Kernel3.τ).loc Cert.Kernel3.main_arg12)) (m ((c.tc : Thread Cert.Kernel3.nD Cert.Kernel3.τ).loc Cert.Kernel3.main_arg13))) = (fun _ => 1#1)

def Pre_Kernel3Ideal [hPre_fast_set : Cert.Pre_fast_set.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_fast_set.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13))) = (fun _ => 1#1)

def Pre_Reference3Ideal (m : (ℓ : Loc Cert.Reference3Ideal.nD Cert.Reference3Ideal.τ Cert.Reference3Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3)
      ∧ r.2.mem ((c.tc : Thread Cert.Kernel1.nD Cert.Kernel1.τ).loc Cert.Kernel1.main_arg4) = m ((c.tc : Thread Cert.Kernel1.nD Cert.Kernel1.τ).loc Cert.Kernel1.main_arg4)
      ∧ r.2.mem ((c.tc : Thread Cert.Kernel1.nD Cert.Kernel1.τ).loc Cert.Kernel1.main_arg5) = m ((c.tc : Thread Cert.Kernel1.nD Cert.Kernel1.τ).loc Cert.Kernel1.main_arg5)
      ∧ r.2.mem ((c.tc : Thread Cert.Kernel1.nD Cert.Kernel1.τ).loc Cert.Kernel1.main_arg6) = m ((c.tc : Thread Cert.Kernel1.nD Cert.Kernel1.τ).loc Cert.Kernel1.main_arg6)
      ∧ r.2.mem ((c.tc : Thread Cert.Kernel1.nD Cert.Kernel1.τ).loc Cert.Kernel1.main_arg7) = m ((c.tc : Thread Cert.Kernel1.nD Cert.Kernel1.τ).loc Cert.Kernel1.main_arg7)
      ∧ r.2.mem ((c.tc : Thread Cert.Kernel1.nD Cert.Kernel1.τ).loc Cert.Kernel1.main_arg8) = m ((c.tc : Thread Cert.Kernel1.nD Cert.Kernel1.τ).loc Cert.Kernel1.main_arg8)
      ∧ r.2.mem ((c.tc : Thread Cert.Kernel1.nD Cert.Kernel1.τ).loc Cert.Kernel1.main_arg9) = m ((c.tc : Thread Cert.Kernel1.nD Cert.Kernel1.τ).loc Cert.Kernel1.main_arg9))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
      ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
      ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
      ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
      ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5)
      ∧ r.2.mem ((c.tc : Thread Cert.Reference1Ideal.nD Cert.Reference1Ideal.τ).loc Cert.Reference1Ideal.main_arg6) = m ((c.tc : Thread Cert.Reference1Ideal.nD Cert.Reference1Ideal.τ).loc Cert.Reference1Ideal.main_arg6)
      ∧ r.2.mem ((c.tc : Thread Cert.Reference1Ideal.nD Cert.Reference1Ideal.τ).loc Cert.Reference1Ideal.main_arg7) = m ((c.tc : Thread Cert.Reference1Ideal.nD Cert.Reference1Ideal.τ).loc Cert.Reference1Ideal.main_arg7)
      ∧ r.2.mem ((c.tc : Thread Cert.Reference1Ideal.nD Cert.Reference1Ideal.τ).loc Cert.Reference1Ideal.main_arg8) = m ((c.tc : Thread Cert.Reference1Ideal.nD Cert.Reference1Ideal.τ).loc Cert.Reference1Ideal.main_arg8)
      ∧ r.2.mem ((c.tc : Thread Cert.Reference1Ideal.nD Cert.Reference1Ideal.τ).loc Cert.Reference1Ideal.main_arg9) = m ((c.tc : Thread Cert.Reference1Ideal.nD Cert.Reference1Ideal.τ).loc Cert.Reference1Ideal.main_arg9))
      ∧ r.2.sem = fun _ => 0)

def quiescent_Kernel0 [hKernel0 : Cert.Kernel0.Facts] : Prop :=
  ∀ (m : (ℓ : Loc Cert.Kernel0.nD Cert.Kernel0.τ Cert.Kernel0.sig) → Buf (Elt Bits) ℓ) (g : Dev Cert.Kernel0.nD → PrngReg), Pre_Kernel0 m →
    θ_run (Cert.Kernel0.defs (F := Bits)) (onTc (τ := Cert.Kernel0.τ) (Cert.Kernel0.main (F := Bits))) ⟨m, fun _ => 0, g⟩ (fun r => (∀ c : Dev Cert.Kernel0.nD,
      r.2.mem ((c.tc : Thread Cert.Kernel0.nD Cert.Kernel0.τ).loc Cert.Kernel0.main_arg0) = m ((c.tc : Thread Cert.Kernel0.nD Cert.Kernel0.τ).loc Cert.Kernel0.main_arg0)
      ∧ r.2.mem ((c.tc : Thread Cert.Kernel0.nD Cert.Kernel0.τ).loc Cert.Kernel0.main_arg1) = m ((c.tc : Thread Cert.Kernel0.nD Cert.Kernel0.τ).loc Cert.Kernel0.main_arg1)
      ∧ r.2.mem ((c.tc : Thread Cert.Kernel0.nD Cert.Kernel0.τ).loc Cert.Kernel0.main_arg2) = m ((c.tc : Thread Cert.Kernel0.nD Cert.Kernel0.τ).loc Cert.Kernel0.main_arg2))
      ∧ r.2.sem = fun _ => 0)

def quiescent_Kernel0Ideal [hKernel0Ideal : Cert.Kernel0Ideal.Facts] : Prop :=
  ∀ (m : (ℓ : Loc Cert.Kernel0Ideal.nD Cert.Kernel0Ideal.τ Cert.Kernel0Ideal.sig) → Buf (Elt Ideal) ℓ) (g : Dev Cert.Kernel0Ideal.nD → PrngReg), Pre_Kernel0Ideal m →
    θ_run (Cert.Kernel0Ideal.defs (F := Ideal)) (onTc (τ := Cert.Kernel0Ideal.τ) (Cert.Kernel0Ideal.main (F := Ideal))) ⟨m, fun _ => 0, g⟩ (fun r => (∀ c : Dev Cert.Kernel0Ideal.nD,
      r.2.mem ((c.tc : Thread Cert.Kernel0Ideal.nD Cert.Kernel0Ideal.τ).loc Cert.Kernel0Ideal.main_arg0) = m ((c.tc : Thread Cert.Kernel0Ideal.nD Cert.Kernel0Ideal.τ).loc Cert.Kernel0Ideal.main_arg0)
      ∧ r.2.mem ((c.tc : Thread Cert.Kernel0Ideal.nD Cert.Kernel0Ideal.τ).loc Cert.Kernel0Ideal.main_arg1) = m ((c.tc : Thread Cert.Kernel0Ideal.nD Cert.Kernel0Ideal.τ).loc Cert.Kernel0Ideal.main_arg1)
      ∧ r.2.mem ((c.tc : Thread Cert.Kernel0Ideal.nD Cert.Kernel0Ideal.τ).loc Cert.Kernel0Ideal.main_arg2) = m ((c.tc : Thread Cert.Kernel0Ideal.nD Cert.Kernel0Ideal.τ).loc Cert.Kernel0Ideal.main_arg2))
      ∧ r.2.sem = fun _ => 0)

def quiescent_Reference0Ideal [hReference0Ideal : Cert.Reference0Ideal.Facts] : Prop :=
  ∀ (m : (ℓ : Loc Cert.Reference0Ideal.nD Cert.Reference0Ideal.τ Cert.Reference0Ideal.sig) → Buf (Elt Ideal) ℓ) (g : Dev Cert.Reference0Ideal.nD → PrngReg), Pre_Reference0Ideal m →
    θ_run (Cert.Reference0Ideal.defs (F := Ideal)) (onTc (τ := Cert.Reference0Ideal.τ) (Cert.Reference0Ideal.main (F := Ideal))) ⟨m, fun _ => 0, g⟩ (fun r => (∀ c : Dev Cert.Reference0Ideal.nD,
      r.2.mem ((c.tc : Thread Cert.Reference0Ideal.nD Cert.Reference0Ideal.τ).loc Cert.Reference0Ideal.main_arg0) = m ((c.tc : Thread Cert.Reference0Ideal.nD Cert.Reference0Ideal.τ).loc Cert.Reference0Ideal.main_arg0)
      ∧ r.2.mem ((c.tc : Thread Cert.Reference0Ideal.nD Cert.Reference0Ideal.τ).loc Cert.Reference0Ideal.main_arg1) = m ((c.tc : Thread Cert.Reference0Ideal.nD Cert.Reference0Ideal.τ).loc Cert.Reference0Ideal.main_arg1)
      ∧ r.2.mem ((c.tc : Thread Cert.Reference0Ideal.nD Cert.Reference0Ideal.τ).loc Cert.Reference0Ideal.main_arg2) = m ((c.tc : Thread Cert.Reference0Ideal.nD Cert.Reference0Ideal.τ).loc Cert.Reference0Ideal.main_arg2))
      ∧ r.2.sem = fun _ => 0)

def quiescent_Kernel3 [hKernel3 : Cert.Kernel3.Facts] [hPre_fast_set : Cert.Pre_fast_set.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] [hPre_fast_set : Cert.Pre_fast_set.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel1_Kernel1Ideal : Prop :=
  True

def algebraic_Kernel1Ideal_Reference1Ideal [hKernel1Ideal : Cert.Kernel1Ideal.Facts] [hReference1Ideal : Cert.Reference1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
      ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)
      ∧ m' ((c.tc : Thread Cert.Reference1Ideal.nD Cert.Reference1Ideal.τ).loc Cert.Reference1Ideal.main_arg5) = m ((c.tc : Thread Cert.Kernel1Ideal.nD Cert.Kernel1Ideal.τ).loc Cert.Kernel1Ideal.main_arg5)
      ∧ m' ((c.tc : Thread Cert.Reference1Ideal.nD Cert.Reference1Ideal.τ).loc Cert.Reference1Ideal.main_arg6) = m ((c.tc : Thread Cert.Kernel1Ideal.nD Cert.Kernel1Ideal.τ).loc Cert.Kernel1Ideal.main_arg6)
      ∧ m' ((c.tc : Thread Cert.Reference1Ideal.nD Cert.Reference1Ideal.τ).loc Cert.Reference1Ideal.main_arg7) = m ((c.tc : Thread Cert.Kernel1Ideal.nD Cert.Kernel1Ideal.τ).loc Cert.Kernel1Ideal.main_arg7)
      ∧ m' ((c.tc : Thread Cert.Reference1Ideal.nD Cert.Reference1Ideal.τ).loc Cert.Reference1Ideal.main_arg8) = m ((c.tc : Thread Cert.Kernel1Ideal.nD Cert.Kernel1Ideal.τ).loc Cert.Kernel1Ideal.main_arg8)
      ∧ m' ((c.tc : Thread Cert.Reference1Ideal.nD Cert.Reference1Ideal.τ).loc Cert.Reference1Ideal.main_arg9) = m ((c.tc : Thread Cert.Kernel1Ideal.nD Cert.Kernel1Ideal.τ).loc Cert.Kernel1Ideal.main_arg9)) →
    ∃ (v0 : (c : Dev Cert.Kernel1Ideal.nD) → Buf (Elt Ideal) ((c.tc : Thread Cert.Kernel1Ideal.nD Cert.Kernel1Ideal.τ).loc Cert.Kernel1Ideal.main_v26_0)) (v1 : (c : Dev Cert.Kernel1Ideal.nD) → Buf (Elt Ideal) ((c.tc : Thread Cert.Kernel1Ideal.nD Cert.Kernel1Ideal.τ).loc Cert.Kernel1Ideal.main_v26_1)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v26_0) = v0 c
          ∧ r.2.mem ((c.tc : Thread Cert.Kernel1Ideal.nD Cert.Kernel1Ideal.τ).loc Cert.Kernel1Ideal.main_v26_1) = v1 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
          ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
          ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5)
          ∧ r.2.mem ((c.tc : Thread Cert.Kernel1Ideal.nD Cert.Kernel1Ideal.τ).loc Cert.Kernel1Ideal.main_arg6) = m ((c.tc : Thread Cert.Kernel1Ideal.nD Cert.Kernel1Ideal.τ).loc Cert.Kernel1Ideal.main_arg6)
          ∧ r.2.mem ((c.tc : Thread Cert.Kernel1Ideal.nD Cert.Kernel1Ideal.τ).loc Cert.Kernel1Ideal.main_arg7) = m ((c.tc : Thread Cert.Kernel1Ideal.nD Cert.Kernel1Ideal.τ).loc Cert.Kernel1Ideal.main_arg7)
          ∧ r.2.mem ((c.tc : Thread Cert.Kernel1Ideal.nD Cert.Kernel1Ideal.τ).loc Cert.Kernel1Ideal.main_arg8) = m ((c.tc : Thread Cert.Kernel1Ideal.nD Cert.Kernel1Ideal.τ).loc Cert.Kernel1Ideal.main_arg8)
          ∧ r.2.mem ((c.tc : Thread Cert.Kernel1Ideal.nD Cert.Kernel1Ideal.τ).loc Cert.Kernel1Ideal.main_arg9) = m ((c.tc : Thread Cert.Kernel1Ideal.nD Cert.Kernel1Ideal.τ).loc Cert.Kernel1Ideal.main_arg9))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v108) = v0 c
          ∧ r.2.mem ((c.tc : Thread Cert.Reference1Ideal.nD Cert.Reference1Ideal.τ).loc Cert.Reference1Ideal.main_v109) = v1 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4)
          ∧ r.2.mem ((c.tc : Thread Cert.Reference1Ideal.nD Cert.Reference1Ideal.τ).loc Cert.Reference1Ideal.main_arg5) = m' ((c.tc : Thread Cert.Reference1Ideal.nD Cert.Reference1Ideal.τ).loc Cert.Reference1Ideal.main_arg5)
          ∧ r.2.mem ((c.tc : Thread Cert.Reference1Ideal.nD Cert.Reference1Ideal.τ).loc Cert.Reference1Ideal.main_arg6) = m' ((c.tc : Thread Cert.Reference1Ideal.nD Cert.Reference1Ideal.τ).loc Cert.Reference1Ideal.main_arg6)
          ∧ r.2.mem ((c.tc : Thread Cert.Reference1Ideal.nD Cert.Reference1Ideal.τ).loc Cert.Reference1Ideal.main_arg7) = m' ((c.tc : Thread Cert.Reference1Ideal.nD Cert.Reference1Ideal.τ).loc Cert.Reference1Ideal.main_arg7)
          ∧ r.2.mem ((c.tc : Thread Cert.Reference1Ideal.nD Cert.Reference1Ideal.τ).loc Cert.Reference1Ideal.main_arg8) = m' ((c.tc : Thread Cert.Reference1Ideal.nD Cert.Reference1Ideal.τ).loc Cert.Reference1Ideal.main_arg8)
          ∧ r.2.mem ((c.tc : Thread Cert.Reference1Ideal.nD Cert.Reference1Ideal.τ).loc Cert.Reference1Ideal.main_arg9) = m' ((c.tc : Thread Cert.Reference1Ideal.nD Cert.Reference1Ideal.τ).loc Cert.Reference1Ideal.main_arg9))

def preserves_Kernel0_Kernel0Ideal : Prop :=
  True

def algebraic_Kernel0Ideal_Reference0Ideal [hKernel0Ideal : Cert.Kernel0Ideal.Facts] [hReference0Ideal : Cert.Reference0Ideal.Facts] : Prop :=
  ∀ (m : (ℓ : Loc Cert.Kernel0Ideal.nD Cert.Kernel0Ideal.τ Cert.Kernel0Ideal.sig) → Buf (Elt Ideal) ℓ) (g : Dev Cert.Kernel0Ideal.nD → PrngReg)
    (m' : (ℓ : Loc Cert.Reference0Ideal.nD Cert.Reference0Ideal.τ Cert.Reference0Ideal.sig) → Buf (Elt Ideal) ℓ) (g' : Dev Cert.Reference0Ideal.nD → PrngReg), Pre_Kernel0Ideal m →
    (∀ c : Dev Cert.Kernel0Ideal.nD,
      m' ((c.tc : Thread Cert.Reference0Ideal.nD Cert.Reference0Ideal.τ).loc Cert.Reference0Ideal.main_arg0) = m ((c.tc : Thread Cert.Kernel0Ideal.nD Cert.Kernel0Ideal.τ).loc Cert.Kernel0Ideal.main_arg0)
      ∧ m' ((c.tc : Thread Cert.Reference0Ideal.nD Cert.Reference0Ideal.τ).loc Cert.Reference0Ideal.main_arg1) = m ((c.tc : Thread Cert.Kernel0Ideal.nD Cert.Kernel0Ideal.τ).loc Cert.Kernel0Ideal.main_arg1)
      ∧ m' ((c.tc : Thread Cert.Reference0Ideal.nD Cert.Reference0Ideal.τ).loc Cert.Reference0Ideal.main_arg2) = m ((c.tc : Thread Cert.Kernel0Ideal.nD Cert.Kernel0Ideal.τ).loc Cert.Kernel0Ideal.main_arg2)) →
    ∃ (v0 : (c : Dev Cert.Kernel0Ideal.nD) → Buf (Elt Ideal) ((c.tc : Thread Cert.Kernel0Ideal.nD Cert.Kernel0Ideal.τ).loc Cert.Kernel0Ideal.main_v1)),
      θ_run (Cert.Kernel0Ideal.defs (F := Ideal)) (onTc (τ := Cert.Kernel0Ideal.τ) (Cert.Kernel0Ideal.main (F := Ideal))) ⟨m, fun _ => 0, g⟩ (fun r => ∀ c : Dev Cert.Kernel0Ideal.nD,
          r.2.mem ((c.tc : Thread Cert.Kernel0Ideal.nD Cert.Kernel0Ideal.τ).loc Cert.Kernel0Ideal.main_v1) = v0 c
          ∧ r.2.mem ((c.tc : Thread Cert.Kernel0Ideal.nD Cert.Kernel0Ideal.τ).loc Cert.Kernel0Ideal.main_arg0) = m ((c.tc : Thread Cert.Kernel0Ideal.nD Cert.Kernel0Ideal.τ).loc Cert.Kernel0Ideal.main_arg0)
          ∧ r.2.mem ((c.tc : Thread Cert.Kernel0Ideal.nD Cert.Kernel0Ideal.τ).loc Cert.Kernel0Ideal.main_arg1) = m ((c.tc : Thread Cert.Kernel0Ideal.nD Cert.Kernel0Ideal.τ).loc Cert.Kernel0Ideal.main_arg1)
          ∧ r.2.mem ((c.tc : Thread Cert.Kernel0Ideal.nD Cert.Kernel0Ideal.τ).loc Cert.Kernel0Ideal.main_arg2) = m ((c.tc : Thread Cert.Kernel0Ideal.nD Cert.Kernel0Ideal.τ).loc Cert.Kernel0Ideal.main_arg2))
      ∧ θ_run (Cert.Reference0Ideal.defs (F := Ideal)) (onTc (τ := Cert.Reference0Ideal.τ) (Cert.Reference0Ideal.main (F := Ideal))) ⟨m', fun _ => 0, g'⟩ (fun r => ∀ c : Dev Cert.Reference0Ideal.nD,
          r.2.mem ((c.tc : Thread Cert.Reference0Ideal.nD Cert.Reference0Ideal.τ).loc Cert.Reference0Ideal.main_v4) = v0 c
          ∧ r.2.mem ((c.tc : Thread Cert.Reference0Ideal.nD Cert.Reference0Ideal.τ).loc Cert.Reference0Ideal.main_arg0) = m' ((c.tc : Thread Cert.Reference0Ideal.nD Cert.Reference0Ideal.τ).loc Cert.Reference0Ideal.main_arg0)
          ∧ r.2.mem ((c.tc : Thread Cert.Reference0Ideal.nD Cert.Reference0Ideal.τ).loc Cert.Reference0Ideal.main_arg1) = m' ((c.tc : Thread Cert.Reference0Ideal.nD Cert.Reference0Ideal.τ).loc Cert.Reference0Ideal.main_arg1)
          ∧ r.2.mem ((c.tc : Thread Cert.Reference0Ideal.nD Cert.Reference0Ideal.τ).loc Cert.Reference0Ideal.main_arg2) = m' ((c.tc : Thread Cert.Reference0Ideal.nD Cert.Reference0Ideal.τ).loc Cert.Reference0Ideal.main_arg2))

def preserves_Kernel3_Kernel3Ideal : Prop :=
  True

def Claim : Prop :=
  ∃ (hKernel2 : Cert.Kernel2.Facts) (hKernel2Ideal : Cert.Kernel2Ideal.Facts) (hReference2Ideal : Cert.Reference2Ideal.Facts) (hKernel1 : Cert.Kernel1.Facts) (hKernel1Ideal : Cert.Kernel1Ideal.Facts) (hReference1Ideal : Cert.Reference1Ideal.Facts) (hKernel0 : Cert.Kernel0.Facts) (hKernel0Ideal : Cert.Kernel0Ideal.Facts) (hReference0Ideal : Cert.Reference0Ideal.Facts) (hKernel3 : Cert.Kernel3.Facts) (hKernel3Ideal : Cert.Kernel3Ideal.Facts) (hReference3Ideal : Cert.Reference3Ideal.Facts) (hPre_fast_set : Cert.Pre_fast_set.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel1 (hKernel1 := hKernel1)
    ∧ quiescent_Kernel1Ideal (hKernel1Ideal := hKernel1Ideal)
    ∧ quiescent_Reference1Ideal (hReference1Ideal := hReference1Ideal)
    ∧ quiescent_Kernel0 (hKernel0 := hKernel0)
    ∧ quiescent_Kernel0Ideal (hKernel0Ideal := hKernel0Ideal)
    ∧ quiescent_Reference0Ideal (hReference0Ideal := hReference0Ideal)
    ∧ quiescent_Kernel3 (hKernel3 := hKernel3) (hPre_fast_set := hPre_fast_set)
    ∧ quiescent_Kernel3Ideal (hKernel3Ideal := hKernel3Ideal) (hPre_fast_set := hPre_fast_set)
    ∧ quiescent_Reference3Ideal (hReference3Ideal := hReference3Ideal)
    ∧ preserves_Kernel2_Kernel2Ideal
    ∧ algebraic_Kernel2Ideal_Reference2Ideal (hKernel2Ideal := hKernel2Ideal) (hReference2Ideal := hReference2Ideal)
    ∧ preserves_Kernel1_Kernel1Ideal
    ∧ algebraic_Kernel1Ideal_Reference1Ideal (hKernel1Ideal := hKernel1Ideal) (hReference1Ideal := hReference1Ideal)
    ∧ preserves_Kernel0_Kernel0Ideal
    ∧ algebraic_Kernel0Ideal_Reference0Ideal (hKernel0Ideal := hKernel0Ideal) (hReference0Ideal := hReference0Ideal)
    ∧ preserves_Kernel3_Kernel3Ideal
-- ==== Pre_fast_set.lean ====
abbrev S1 : Shape := ⟨1, ![1]⟩
abbrev S32x2048x1024 : Shape := ⟨3, ![32, 2048, 1024]⟩
abbrev S32x6144 : Shape := ⟨2, ![32, 6144]⟩
abbrev S32x2048x3072 : Shape := ⟨3, ![32, 2048, 3072]⟩
abbrev S32x2048x2048 : Shape := ⟨3, ![32, 2048, 2048]⟩
abbrev S8x15x31 : Shape := ⟨3, ![8, 15, 31]⟩
abbrev S64 : Shape := ⟨1, ![64]⟩
abbrev S128 : Shape := ⟨1, ![128]⟩
abbrev S512x1024 : Shape := ⟨2, ![512, 1024]⟩
abbrev S1024x1024 : Shape := ⟨2, ![1024, 1024]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S32x2048x1024 .f32) (main_arg2 : FVec F S32x6144 .f32) (main_arg3 : FVec F S32x2048x3072 .bf16) (main_arg4 : FVec F S32x2048x2048 .bf16) (main_arg5 : FVec F S8x15x31 .f32) (main_arg6 : FVec F S64 .f32) (main_arg7 : FVec F S64 .f32) (main_arg8 : FVec F S64 .f32) (main_arg9 : FVec F S64 .f32) (main_arg10 : FVec F S128 .f32) (main_arg11 : FVec F S512x1024 .f32) (main_arg12 : FVec F S512x1024 .f32) (main_arg13 : FVec F S1024x1024 .f32) : IVec S_ 1 :=
  let main_v0 : IVec S_ 32 := shapeCast S_ main_arg0 shapeCasts_S1_S_
  let main_c : IVec S_ 32 := constantI S_ 32 0#32
  let main_v1 : IVec S_ 1 := cmpi .ne main_v0 main_c
  main_v1
-- ==== Kernel2.lean ====
abbrev S32x2048x1024 : Shape := ⟨3, ![32, 2048, 1024]⟩
abbrev S32x6144 : Shape := ⟨2, ![32, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32x6x1024 : Shape := ⟨3, ![32, 6, 1024]⟩
abbrev S1x5632 : Shape := ⟨2, ![1, 5632]⟩
abbrev S1x1024 : Shape := ⟨2, ![1, 1024]⟩
abbrev S1x1024x1024 : Shape := ⟨3, ![1, 1024, 1024]⟩
abbrev S1x8x1024 : Shape := ⟨3, ![1, 8, 1024]⟩
abbrev S1x6x1024 : Shape := ⟨3, ![1, 6, 1024]⟩
abbrev S2x1040x512 : Shape := ⟨3, ![2, 1040, 512]⟩
abbrev S1024x1024 : Shape := ⟨2, ![1024, 1024]⟩
abbrev S8x1024 : Shape := ⟨2, ![8, 1024]⟩
abbrev S1040x1024 : Shape := ⟨2, ![1040, 1024]⟩
abbrev S1x1x1024 : Shape := ⟨3, ![1, 1, 1024]⟩
abbrev S1040 : Shape := ⟨1, ![1040]⟩
abbrev S1040x1 : Shape := ⟨2, ![1040, 1]⟩
abbrev S1024x256 : Shape := ⟨2, ![1024, 256]⟩
abbrev S1024x512 : Shape := ⟨2, ![1024, 512]⟩
abbrev S1040x512 : Shape := ⟨2, ![1040, 512]⟩
abbrev S1x1040x512 : Shape := ⟨3, ![1, 1040, 512]⟩
abbrev S1x1024x256 : Shape := ⟨3, ![1, 1024, 256]⟩
abbrev S1x256 : Shape := ⟨2, ![1, 256]⟩
abbrev S256x1024 : Shape := ⟨2, ![256, 1024]⟩

abbrev nBuf : Space → Nat
  | .hbm => 13
  | .vmem => 16
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S32x6x1024, .f32⟩
  | .hbm, ⟨8, _⟩ => ⟨S1024x5632, .bf16⟩
  | .hbm, ⟨9, _⟩ => ⟨S1x5632, .f32⟩
  | .hbm, ⟨10, _⟩ => ⟨S1x1024, .f32⟩
  | .hbm, ⟨11, _⟩ => ⟨S2816x1024, .bf16⟩
  | .hbm, ⟨12, _⟩ => ⟨S32x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x5632, .bf16⟩
  | .local _ .vmem, ⟨10, _⟩ => ⟨S3x5632, .f32⟩
  | .local _ .vmem, ⟨11, _⟩ => ⟨S1x5632, .f32⟩
  | .local _ .vmem, ⟨12, _⟩ => ⟨S2816x1024, .bf16⟩
  | .local _ .vmem, ⟨13, _⟩ => ⟨S1x1024x1024, .f32⟩
  | .local _ .vmem, ⟨14, _⟩ => ⟨S1x1024x1024, .f32⟩
  | .local _ .vmem, ⟨15, _⟩ => ⟨S2x1040x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S32x2048x1024 : Shape := ⟨3, ![32, 2048, 1024]⟩
abbrev S32x6144 : Shape := ⟨2, ![32, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32x1x6144 : Shape := ⟨3, ![32, 1, 6144]⟩
abbrev S32x1x1024 : Shape := ⟨3, ![32, 1, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x2050x5632 : Shape := ⟨3, ![32, 2050, 5632]⟩
abbrev S1x5632 : Shape := ⟨2, ![1, 5632]⟩
abbrev S1x1x5632 : Shape := ⟨3, ![1, 1, 5632]⟩
abbrev S32x2048x2816 : Shape := ⟨3, ![32, 2048, 2816]⟩

abbrev nBuf : Space → Nat
  | .hbm => 80
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S32x1x6144, .f32⟩
  | .hbm, ⟨8, _⟩ => ⟨S32x1x1024, .f32⟩
  | .hbm, ⟨9, _⟩ => ⟨S32x1x1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x1x1024, .f32⟩
  | .hbm, ⟨14, _⟩ => ⟨S32x2048x1024, .f32⟩
  | .hbm, ⟨15, _⟩ => ⟨S_, .f32⟩
  | .hbm, ⟨16, _⟩ => ⟨S32x2048, .f32⟩
  | .hbm, ⟨17, _⟩ => ⟨S32x2048x1, .f32⟩
  | .hbm, ⟨18, _⟩ => ⟨S_, .f32⟩
  | .hbm, ⟨19, _⟩ => ⟨S32x2048x1, .f32⟩
  | .hbm, ⟨20, _⟩ => ⟨S32x2048x1, .f32⟩
  | .hbm, ⟨21, _⟩ => ⟨S_, .f32⟩
  | .hbm, ⟨22, _⟩ => ⟨S32x2048x1, .f32⟩
  | .hbm, ⟨23, _⟩ => ⟨S32x2048x1, .f32⟩
  | .hbm, ⟨24, _⟩ => ⟨S32x2048x1, .f32⟩
  | .hbm, ⟨25, _⟩ => ⟨S32x2048x1024, .f32⟩
  | .hbm, ⟨26, _⟩ => ⟨S32x2048x1024, .f32⟩
  | .hbm, ⟨27, _⟩ => ⟨S1x1x1024, .f32⟩
  | .hbm, ⟨28, _⟩ => ⟨S32x2048x1024, .f32⟩
  | .hbm, ⟨29, _⟩ => ⟨S32x2048x1024, .f32⟩
  | .hbm, ⟨30, _⟩ => ⟨S_, .f32⟩
  | .hbm, ⟨31, _⟩ => ⟨S32x1x1024, .f32⟩
  | .hbm, ⟨32, _⟩ => ⟨S32x1x1024, .f32⟩
  | .hbm, ⟨33, _⟩ => ⟨S32x2048x1024, .f32⟩
  | .hbm, ⟨34, _⟩ => ⟨S32x2048x1024, .f32⟩
  | .hbm, ⟨35, _⟩ => ⟨S32x2048x1024, .f32⟩
  | .hbm, ⟨36, _⟩ => ⟨S32x2048x1024, .f32⟩
  | .hbm, ⟨37, _⟩ => ⟨S32x2048x5632, .f32⟩
  | .hbm, ⟨38, _⟩ => ⟨S_, .i32⟩
  | .hbm, ⟨39, _⟩ => ⟨S_, .f32⟩
  | .hbm, ⟨40, _⟩ => ⟨S32x2050x5632, .f32⟩
  | .hbm, ⟨41, _⟩ => ⟨S32x2048x5632, .f32⟩
  | .hbm, ⟨42, _⟩ => ⟨S1x5632, .f32⟩
  | .hbm, ⟨43, _⟩ => ⟨S5632, .f32⟩
  | .hbm, ⟨44, _⟩ => ⟨S1x1x5632, .f32⟩
  | .hbm, ⟨45, _⟩ => ⟨S32x2048x5632, .f32⟩
  | .hbm, ⟨46, _⟩ => ⟨S32x2048x5632, .f32⟩
  | .hbm, ⟨47, _⟩ => ⟨S32x2048x5632, .f32⟩
  | .hbm, ⟨48, _⟩ => ⟨S1x5632, .f32⟩
  | .hbm, ⟨49, _⟩ => ⟨S5632, .f32⟩
  | .hbm, ⟨50, _⟩ => ⟨S1x1x5632, .f32⟩
  | .hbm, ⟨51, _⟩ => ⟨S32x2048x5632, .f32⟩
  | .hbm, ⟨52, _⟩ => ⟨S32x2048x5632, .f32⟩
  | .hbm, ⟨53, _⟩ => ⟨S32x2048x5632, .f32⟩
  | .hbm, ⟨54, _⟩ => ⟨S32x2048x5632, .f32⟩
  | .hbm, ⟨55, _⟩ => ⟨S1x5632, .f32⟩
  | .hbm, ⟨56, _⟩ => ⟨S5632, .f32⟩
  | .hbm, ⟨57, _⟩ => ⟨S1x1x5632, .f32⟩
  | .hbm, ⟨58, _⟩ => ⟨S32x2048x5632, .f32⟩
  | .hbm, ⟨59, _⟩ => ⟨S32x2048x5632, .f32⟩
  | .hbm, ⟨60, _⟩ => ⟨S32x2048x5632, .f32⟩
  | .hbm, ⟨61, _⟩ => ⟨S1x1x5632, .f32⟩
  | .hbm, ⟨62, _⟩ => ⟨S32x2048x5632, .f32⟩
  | .hbm, ⟨63, _⟩ => ⟨S32x2048x5632, .f32⟩
  | .hbm, ⟨64, _⟩ => ⟨S32x2048x2816, .f32⟩
  | .hbm, ⟨65, _⟩ => ⟨S32x2048x2816, .f32⟩
  | .hbm, ⟨66, _⟩ => ⟨S_, .f32⟩
  | .hbm, ⟨67, _⟩ => ⟨S32x2048x2816, .f32⟩
  | .hbm, ⟨68, _⟩ => ⟨S32x2048x2816, .f32⟩
  | .hbm, ⟨69, _⟩ => ⟨S32x2048x2816, .f32⟩
  | .hbm, ⟨70, _⟩ => ⟨S_, .f32⟩
  | .hbm, ⟨71, _⟩ => ⟨S32x2048x2816, .f32⟩
  | .hbm, ⟨72, _⟩ => ⟨S32x2048x2816, .f32⟩
  | .hbm, ⟨73, _⟩ => ⟨S32x2048x2816, .f32⟩
  | .hbm, ⟨74, _⟩ => ⟨S32x2048x2816, .f32⟩
  | .hbm, ⟨75, _⟩ => ⟨S32x2048x2816, .f32⟩
  | .hbm, ⟨76, _⟩ => ⟨S32x2048x1024, .f32⟩
  | .hbm, ⟨77, _⟩ => ⟨S32x2048x1024, .f32⟩
  | .hbm, ⟨78, _⟩ => ⟨S32x2048x1024, .f32⟩
  | .hbm, ⟨79, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_call0_v0 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_3 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_4 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩

abbrev nD : Nat := 1
abbrev τ : Topo := Topo.v7x

variable {F : FTy → Type} [FloatOps F]
-- ==== Kernel1.lean ====
abbrev S32x2048x1024 : Shape := ⟨3, ![32, 2048, 1024]⟩
abbrev S32x6144 : Shape := ⟨2, ![32, 6144]⟩
abbrev S1024 : Shape := ⟨1, ![1024]⟩
abbrev S1024x3072 : Shape := ⟨2, ![1024, 3072]⟩
abbrev S64 : Shape := ⟨1, ![64]⟩
abbrev S1024x2048 : Shape := ⟨2, ![1024, 2048]⟩
abbrev S2048 : Shape := ⟨1, ![2048]⟩
abbrev S1x64 : Shape := ⟨2, ![1, 64]⟩
abbrev S8x64 : Shape := ⟨2, ![8, 64]⟩
abbrev S512 : Shape := ⟨1, ![512]⟩
abbrev S_ : Shape := ⟨0, ![]⟩
abbrev S1x512 : Shape := ⟨2, ![1, 512]⟩
abbrev S4x512 : Shape := ⟨2, ![4, 512]⟩
abbrev S32x6x1024 : Shape := ⟨3, ![32, 6, 1024]⟩
abbrev S1x1024 : Shape := ⟨2, ![1, 1024]⟩
abbrev S1x2048 : Shape := ⟨2, ![1, 2048]⟩
abbrev S32x2048x3072 : Shape := ⟨3, ![32, 2048, 3072]⟩
abbrev S32x2048x2048 : Shape := ⟨3, ![32, 2048, 2048]⟩
abbrev S1x1024x1024 : Shape := ⟨3, ![1, 1024, 1024]⟩
abbrev S1x6x1024 : Shape := ⟨3, ![1, 6, 1024]⟩
abbrev S1x1024x3072 : Shape := ⟨3, ![1, 1024, 3072]⟩
abbrev S1x1024x2048 : Shape := ⟨3, ![1, 1024, 2048]⟩
abbrev S1024x1024 : Shape := ⟨2, ![1024, 1024]⟩
abbrev S1x1x1024 : Shape := ⟨3, ![1, 1, 1024]⟩
abbrev S1024x1 : Shape := ⟨2, ![1024, 1]⟩
abbrev S1x128 : Shape := ⟨2, ![1, 128]⟩
abbrev S1024x512 : Shape := ⟨2, ![1024, 512]⟩
abbrev S1024x128 : Shape := ⟨2, ![1024, 128]⟩
abbrev S1x1024x128 : Shape := ⟨3, ![1, 1024, 128]⟩
abbrev S1x1024x512 : Shape := ⟨3, ![1, 1024, 512]⟩

abbrev nBuf : Space → Nat
  | .hbm => 40
  | .vmem => 13
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S1024, .f32⟩
  | .hbm, ⟨3, _⟩ => ⟨S1024x3072, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S1024x2048, .f32⟩
  | .hbm, ⟨9, _⟩ => ⟨S2048, .f32⟩
  | .hbm, ⟨10, _⟩ => ⟨S1x64, .f32⟩
  | .hbm, ⟨11, _⟩ => ⟨S8x64, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .f32⟩
  | .hbm, ⟨16, _⟩ => ⟨S1x64, .f32⟩
  | .hbm, ⟨17, _⟩ => ⟨S8x64, .f32⟩
  | .hbm, ⟨18, _⟩ => ⟨S512, .f32⟩
  | .hbm, ⟨19, _⟩ => ⟨S1x64, .f32⟩
  | .hbm, ⟨20, _⟩ => ⟨S8x64, .f32⟩
  | .hbm, ⟨21, _⟩ => ⟨S512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S1x64, .f32⟩
  | .hbm, ⟨26, _⟩ => ⟨S8x64, .f32⟩
  | .hbm, ⟨27, _⟩ => ⟨S512, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S4x512, .f32⟩
  | .hbm, ⟨33, _⟩ => ⟨S32x6x1024, .f32⟩
  | .hbm, ⟨34, _⟩ => ⟨S1x1024, .f32⟩
  | .hbm, ⟨35, _⟩ => ⟨S1024x3072, .bf16⟩
  | .hbm, ⟨36, _⟩ => ⟨S1024x2048, .bf16⟩
  | .hbm, ⟨37, _⟩ => ⟨S1x2048, .f32⟩
  | .hbm, ⟨38, _⟩ => ⟨S32x2048x3072, .bf16⟩
  | .hbm, ⟨39, _⟩ => ⟨S32x2048x2048, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3072, .bf16⟩
  | .local _ .vmem, ⟨6, _⟩ => ⟨S1024x2048, .bf16⟩
  | .local _ .vmem, ⟨7, _⟩ => ⟨S1x2048, .f32⟩
  | .local _ .vmem, ⟨8, _⟩ => ⟨S4x512, .f32⟩
  | .local _ .vmem, ⟨9, _⟩ => ⟨S1x1024x3072, .bf16⟩
  | .local _ .vmem, ⟨10, _⟩ => ⟨S1x1024x3072, .bf16⟩
  | .local _ .vmem, ⟨11, _⟩ => ⟨S1x1024x2048, .bf16⟩
  | .local _ .vmem, ⟨12, _⟩ => ⟨S1x1024x2048, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26_0 : Ref sig .tc := ⟨.hbm, 38, rfl⟩
abbrev main_v26_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference1Ideal.lean ====
abbrev S32x2048x1024 : Shape := ⟨3, ![32, 2048, 1024]⟩
abbrev S32x6144 : Shape := ⟨2, ![32, 6144]⟩
abbrev S1024 : Shape := ⟨1, ![1024]⟩
abbrev S1024x3072 : Shape := ⟨2, ![1024, 3072]⟩
abbrev S64 : Shape := ⟨1, ![64]⟩
abbrev S1024x2048 : Shape := ⟨2, ![1024, 2048]⟩
abbrev S2048 : Shape := ⟨1, ![2048]⟩
abbrev S32x1x6144 : Shape := ⟨3, ![32, 1, 6144]⟩
abbrev S32x1x1024 : Shape := ⟨3, ![32, 1, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x3072 : Shape := ⟨3, ![32, 2048, 3072]⟩
abbrev S32x2048x512 : Shape := ⟨3, ![32, 2048, 512]⟩
abbrev S32x2048x8x64 : Shape := ⟨4, ![32, 2048, 8, 64]⟩
abbrev S32x2048x8 : Shape := ⟨3, ![32, 2048, 8]⟩
abbrev S32x2048x8x1 : Shape := ⟨4, ![32, 2048, 8, 1]⟩
abbrev S1x1x1x64 : Shape := ⟨4, ![1, 1, 1, 64]⟩
abbrev S32x2048x4x2x64 : Shape := ⟨5, ![32, 2048, 4, 2, 64]⟩
abbrev S32x2048x4x2 : Shape := ⟨4, ![32, 2048, 4, 2]⟩
abbrev S32x2048x4x2x1 : Shape := ⟨5, ![32, 2048, 4, 2, 1]⟩
abbrev S1x1x1x1x64 : Shape := ⟨5, ![1, 1, 1, 1, 64]⟩
abbrev S32x2048x2048 : Shape := ⟨3, ![32, 2048, 2048]⟩
abbrev S1x1x2048 : Shape := ⟨3, ![1, 1, 2048]⟩

abbrev nBuf : Space → Nat
  | .hbm => 140
  | .vmem => 0
  | .smem => 0
  | _ => 0

abbrev hbmTy0_0 (i : Nat) : BufTy := match i % 128 with
  | 0 => ⟨S32x2048x1024, .f32⟩
  | 1 => ⟨S32x6144, .f32⟩
  | 2 => ⟨S1024, .f32⟩
  | 3 => ⟨S1024x3072, .f32⟩
  | 4 => ⟨S64, .f32⟩
  | 5 => ⟨S64, .f32⟩
  | 6 => ⟨S64, .f32⟩
  | 7 => ⟨S64, .f32⟩
  | 8 => ⟨S1024x2048, .f32⟩
  | 9 => ⟨S2048, .f32⟩
  | 10 => ⟨S32x1x6144, .f32⟩
  | 11 => ⟨S32x1x1024, .f32⟩
  | 12 => ⟨S32x1x1024, .f32⟩
  | 13 => ⟨S32x1x1024, .f32⟩
  | 14 => ⟨S32x1x1024, .f32⟩
  | 15 => ⟨S32x1x1024, .f32⟩
  | 16 => ⟨S32x1x1024, .f32⟩
  | 17 => ⟨S32x2048x1024, .f32⟩
  | 18 => ⟨S_, .f32⟩
  | 19 => ⟨S32x2048, .f32⟩
  | 20 => ⟨S32x2048x1, .f32⟩
  | 21 => ⟨S_, .f32⟩
  | 22 => ⟨S32x2048x1, .f32⟩
  | 23 => ⟨S32x2048x1, .f32⟩
  | 24 => ⟨S_, .f32⟩
  | 25 => ⟨S32x2048x1, .f32⟩
  | 26 => ⟨S32x2048x1, .f32⟩
  | 27 => ⟨S32x2048x1, .f32⟩
  | 28 => ⟨S32x2048x1024, .f32⟩
  | 29 => ⟨S32x2048x1024, .f32⟩
  | 30 => ⟨S1x1x1024, .f32⟩
  | 31 => ⟨S32x2048x1024, .f32⟩
  | 32 => ⟨S32x2048x1024, .f32⟩
  | 33 => ⟨S_, .f32⟩
  | 34 => ⟨S32x1x1024, .f32⟩
  | 35 => ⟨S32x1x1024, .f32⟩
  | 36 => ⟨S32x2048x1024, .f32⟩
  | 37 => ⟨S32x2048x1024, .f32⟩
  | 38 => ⟨S32x2048x1024, .f32⟩
  | 39 => ⟨S32x2048x1024, .f32⟩
  | 40 => ⟨S32x2048x3072, .f32⟩
  | 41 => ⟨S32x2048x512, .f32⟩
  | 42 => ⟨S32x2048x512, .f32⟩
  | 43 => ⟨S32x2048x512, .f32⟩
  | 44 => ⟨S32x2048x512, .f32⟩
  | 45 => ⟨S32x2048x512, .f32⟩
  | 46 => ⟨S32x2048x512, .f32⟩
  | 47 => ⟨S32x2048x8x64, .f32⟩
  | 48 => ⟨S32x2048x8x64, .f32⟩
  | 49 => ⟨S_, .f32⟩
  | 50 => ⟨S32x2048x8, .f32⟩
  | 51 => ⟨S32x2048x8x1, .f32⟩
  | 52 => ⟨S_, .f32⟩
  | 53 => ⟨S32x2048x8x1, .f32⟩
  | 54 => ⟨S32x2048x8x1, .f32⟩
  | 55 => ⟨S_, .f32⟩
  | 56 => ⟨S32x2048x8x1, .f32⟩
  | 57 => ⟨S32x2048x8x1, .f32⟩
  | 58 => ⟨S32x2048x8x1, .f32⟩
  | 59 => ⟨S32x2048x8x64, .f32⟩
  | 60 => ⟨S32x2048x8x64, .f32⟩
  | 61 => ⟨S1x1x1x64, .f32⟩
  | 62 => ⟨S32x2048x8x64, .f32⟩
  | 63 => ⟨S32x2048x8x64, .f32⟩
  | 64 => ⟨S_, .f32⟩
  | 65 => ⟨S32x2048x8x64, .f32⟩
  | 66 => ⟨S32x2048x8x64, .f32⟩
  | 67 => ⟨S32x2048x8x64, .f32⟩
  | 68 => ⟨S32x2048x8x64, .f32⟩
  | 69 => ⟨S_, .f32⟩
  | 70 => ⟨S32x2048x8, .f32⟩
  | 71 => ⟨S32x2048x8x1, .f32⟩
  | 72 => ⟨S_, .f32⟩
  | 73 => ⟨S32x2048x8x1, .f32⟩
  | 74 => ⟨S32x2048x8x1, .f32⟩
  | 75 => ⟨S_, .f32⟩
  | 76 => ⟨S32x2048x8x1, .f32⟩
  | 77 => ⟨S32x2048x8x1, .f32⟩
  | 78 => ⟨S32x2048x8x1, .f32⟩
  | 79 => ⟨S32x2048x8x64, .f32⟩
  | 80 => ⟨S32x2048x8x64, .f32⟩
  | 81 => ⟨S1x1x1x64, .f32⟩
  | 82 => ⟨S32x2048x8x64, .f32⟩
  | 83 => ⟨S32x2048x8x64, .f32⟩
  | 84 => ⟨S32x2048x4x2x64, .f32⟩
  | 85 => ⟨S32x2048x4x2x64, .f32⟩
  | 86 => ⟨S_, .f32⟩
  | 87 => ⟨S32x2048x4x2, .f32⟩
  | 88 => ⟨S32x2048x4x2x1, .f32⟩
  | 89 => ⟨S_, .f32⟩
  | 90 => ⟨S32x2048x4x2x1, .f32⟩
  | 91 => ⟨S32x2048x4x2x1, .f32⟩
  | 92 => ⟨S_, .f32⟩
  | 93 => ⟨S32x2048x4x2x1, .f32⟩
  | 94 => ⟨S32x2048x4x2x1, .f32⟩
  | 95 => ⟨S32x2048x4x2x1, .f32⟩
  | 96 => ⟨S32x2048x4x2x64, .f32⟩
  | 97 => ⟨S32x2048x4x2x64, .f32⟩
  | 98 => ⟨S1x1x1x1x64, .f32⟩
  | 99 => ⟨S32x2048x4x2x64, .f32⟩
  | 100 => ⟨S32x2048x4x2x64, .f32⟩
  | 101 => ⟨S_, .f32⟩
  | 102 => ⟨S32x2048x4x2x64, .f32⟩
  | 103 => ⟨S32x2048x4x2x64, .f32⟩
  | 104 => ⟨S32x2048x4x2x64, .f32⟩
  | 105 => ⟨S32x2048x4x2x64, .f32⟩
  | 106 => ⟨S_, .f32⟩
  | 107 => ⟨S32x2048x4x2, .f32⟩
  | 108 => ⟨S32x2048x4x2x1, .f32⟩
  | 109 => ⟨S_, .f32⟩
  | 110 => ⟨S32x2048x4x2x1, .f32⟩
  | 111 => ⟨S32x2048x4x2x1, .f32⟩
  | 112 => ⟨S_, .f32⟩
  | 113 => ⟨S32x2048x4x2x1, .f32⟩
  | 114 => ⟨S32x2048x4x2x1, .f32⟩
  | 115 => ⟨S32x2048x4x2x1, .f32⟩
  | 116 => ⟨S32x2048x4x2x64, .f32⟩
  | 117 => ⟨S32x2048x4x2x64, .f32⟩
  | 118 => ⟨S1x1x1x1x64, .f32⟩
  | 119 => ⟨S32x2048x4x2x64, .f32⟩
  | 120 => ⟨S32x2048x4x2x64, .f32⟩
  | 121 => ⟨S32x2048x512, .f32⟩
  | 122 => ⟨S32x2048x512, .f32⟩
  | 123 => ⟨S32x2048x512, .f32⟩
  | 124 => ⟨S32x2048x512, .f32⟩
  | 125 => ⟨S32x2048x3072, .f32⟩
  | 126 => ⟨S32x2048x2048, .f32⟩
  | 127 => ⟨S1x1x2048, .f32⟩
  | _ => ⟨S32x2048x1024, .f32⟩

abbrev hbmTy0_1 (i : Nat) : BufTy := match i % 128 with
  | 0 => ⟨S32x2048x2048, .f32⟩
  | 1 => ⟨S32x2048x2048, .f32⟩
  | 2 => ⟨S32x2048x2048, .f32⟩
  | 3 => ⟨S32x2048x2048, .f32⟩
  | 4 => ⟨S_, .f32⟩
  | 5 => ⟨S32x2048x2048, .f32⟩
  | 6 => ⟨S32x2048x2048, .f32⟩
  | 7 => ⟨S_, .f32⟩
  | 8 => ⟨S32x2048x2048, .f32⟩
  | 9 => ⟨S32x2048x2048, .f32⟩
  | 10 => ⟨S32x2048x3072, .bf16⟩
  | 11 => ⟨S32x2048x2048, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_10 : Ref sig .tc := ⟨.hbm, 86, rfl⟩
abbrev main_v65 : Ref sig .tc := ⟨.hbm, 87, rfl⟩
abbrev main_v66 : Ref sig .tc := ⟨.hbm, 88, rfl⟩
abbrev main_cst_11 : Ref sig .tc := ⟨.hbm, 89, rfl⟩
abbrev main_v67 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_14 : Ref sig .tc := ⟨.hbm, 106, rfl⟩
abbrev main_v81 : Ref sig .tc := ⟨.hbm, 107, rfl⟩
abbrev main_v82 : Ref sig .tc := ⟨.hbm, 108, rfl⟩
abbrev main_cst_15 : Ref sig .tc := ⟨.hbm, 109, rfl⟩
abbrev main_v83 : Ref sig .tc := ⟨.hbm, 110, rfl⟩
abbrev main_v84 : Ref sig .tc := ⟨.hbm, 111, rfl⟩
abbrev main_cst_16 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_cst_17 : Ref sig .tc := ⟨.hbm, 132, rfl⟩
abbrev main_v104 : Ref sig .tc := ⟨.hbm, 133, rfl⟩
abbrev main_v105 : Ref sig .tc := ⟨.hbm, 134, rfl⟩
abbrev main_cst_18 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩

abbrev nD : Nat := 1
abbrev τ : Topo := Topo.v7x

variable {F : FTy → Type} [FloatOps F]
-- ==== Kernel0.lean ====
abbrev S32x1024 : Shape := ⟨2, ![32, 1024]⟩
abbrev S1024x6144 : Shape := ⟨2, ![1024, 6144]⟩
abbrev S6144 : Shape := ⟨1, ![6144]⟩
abbrev S1x6144 : Shape := ⟨2, ![1, 6144]⟩
abbrev S32x6144 : Shape := ⟨2, ![32, 6144]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S32x6144, .f32⟩
  | .local _ .vmem, ⟨0, _⟩ => ⟨S32x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S32x1024, .f32⟩
  | .local _ .vmem, ⟨6, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference0Ideal.lean ====
abbrev S32x1024 : Shape := ⟨2, ![32, 1024]⟩
abbrev S1024x6144 : Shape := ⟨2, ![1024, 6144]⟩
abbrev S6144 : Shape := ⟨1, ![6144]⟩
abbrev S_ : Shape := ⟨0, ![]⟩
abbrev S32x6144 : Shape := ⟨2, ![32, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024x6144, .f32⟩
  | .hbm, ⟨2, _⟩ => ⟨S6144, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x6144, .f32⟩
  | .hbm, ⟨13, _⟩ => ⟨S1x6144, .f32⟩
  | .hbm, ⟨14, _⟩ => ⟨S32x6144, .f32⟩
  | .hbm, ⟨15, _⟩ => ⟨S32x6144, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel3.lean ====
abbrev S1 : Shape := ⟨1, ![1]⟩
abbrev S32x2048x1024 : Shape := ⟨3, ![32, 2048, 1024]⟩
abbrev S32x6144 : Shape := ⟨2, ![32, 6144]⟩
abbrev S32x2048x3072 : Shape := ⟨3, ![32, 2048, 3072]⟩
abbrev S32x2048x2048 : Shape := ⟨3, ![32, 2048, 2048]⟩
abbrev S8x15x31 : Shape := ⟨3, ![8, 15, 31]⟩
abbrev S64 : Shape := ⟨1, ![64]⟩
abbrev S128 : Shape := ⟨1, ![128]⟩
abbrev S512x1024 : Shape := ⟨2, ![512, 1024]⟩
abbrev S1024x1024 : Shape := ⟨2, ![1024, 1024]⟩
abbrev S1x64 : Shape := ⟨2, ![1, 64]⟩
abbrev S4x64 : Shape := ⟨2, ![4, 64]⟩
abbrev S_ : Shape := ⟨0, ![]⟩
abbrev S4x128 : Shape := ⟨2, ![4, 128]⟩
abbrev S32x6x1024 : Shape := ⟨3, ![32, 6, 1024]⟩
abbrev S8x15x96 : Shape := ⟨3, ![8, 15, 96]⟩
abbrev S8x15x16 : Shape := ⟨3, ![8, 15, 16]⟩
abbrev S8x15x15 : Shape := ⟨3, ![8, 15, 15]⟩
abbrev S8x15x127 : Shape := ⟨3, ![8, 15, 127]⟩
abbrev S1x8x1x15x1x127 : Shape := ⟨6, ![1, 8, 1, 15, 1, 127]⟩
abbrev S1x8x1x15x64x127 : Shape := ⟨6, ![1, 8, 1, 15, 64, 127]⟩
abbrev S8x15x8128 : Shape := ⟨3, ![8, 15, 8128]⟩
abbrev S8x15x8064 : Shape := ⟨3, ![8, 15, 8064]⟩
abbrev S8x15x64x126 : Shape := ⟨4, ![8, 15, 64, 126]⟩
abbrev S8x15x64x64 : Shape := ⟨4, ![8, 15, 64, 64]⟩
abbrev S64x1 : Shape := ⟨2, ![64, 1]⟩
abbrev S64x64 : Shape := ⟨2, ![64, 64]⟩
abbrev S1x1x64x64 : Shape := ⟨4, ![1, 1, 64, 64]⟩
abbrev S8x14x64x64 : Shape := ⟨4, ![8, 14, 64, 64]⟩
abbrev S8x14x64x128 : Shape := ⟨4, ![8, 14, 64, 128]⟩
abbrev S14x8x64x128 : Shape := ⟨4, ![14, 8, 64, 128]⟩
abbrev S14x512x128 : Shape := ⟨3, ![14, 512, 128]⟩
abbrev S8x256x128 : Shape := ⟨3, ![8, 256, 128]⟩
abbrev S4096x128 : Shape := ⟨2, ![4096, 128]⟩
abbrev S256x256 : Shape := ⟨2, ![256, 256]⟩
abbrev S1x4096x128 : Shape := ⟨3, ![1, 4096, 128]⟩
abbrev S4x4096x128 : Shape := ⟨3, ![4, 4096, 128]⟩
abbrev S1x256x256 : Shape := ⟨3, ![1, 256, 256]⟩
abbrev S4x256x256 : Shape := ⟨3, ![4, 256, 256]⟩
abbrev S1x128 : Shape := ⟨2, ![1, 128]⟩
abbrev S1x256x512 : Shape := ⟨3, ![1, 256, 512]⟩
abbrev S1x2048x512 : Shape := ⟨3, ![1, 2048, 512]⟩
abbrev S1x256x2048 : Shape := ⟨3, ![1, 256, 2048]⟩
abbrev S1x256x1024 : Shape := ⟨3, ![1, 256, 1024]⟩
abbrev S1x6x1024 : Shape := ⟨3, ![1, 6, 1024]⟩
abbrev S256x512 : Shape := ⟨2, ![256, 512]⟩
abbrev S256x1024 : Shape := ⟨2, ![256, 1024]⟩
abbrev S4096x512 : Shape := ⟨2, ![4096, 512]⟩
abbrev S1x1 : Shape := ⟨2, ![1, 1]⟩
abbrev S2048x512 : Shape := ⟨2, ![2048, 512]⟩
abbrev S1x256x128 : Shape := ⟨3, ![1, 256, 128]⟩
abbrev S256x128 : Shape := ⟨2, ![256, 128]⟩
abbrev S1792x128 : Shape := ⟨2, ![1792, 128]⟩
abbrev S1x1792x128 : Shape := ⟨3, ![1, 1792, 128]⟩
abbrev S1792x256 : Shape := ⟨2, ![1792, 256]⟩
abbrev S256x1792 : Shape := ⟨2, ![256, 1792]⟩
abbrev S256 : Shape := ⟨1, ![256]⟩
abbrev S256x1 : Shape := ⟨2, ![256, 1]⟩
abbrev S1x64x128 : Shape := ⟨3, ![1, 64, 128]⟩
abbrev S64x128 : Shape := ⟨2, ![64, 128]⟩
abbrev S1x512x128 : Shape := ⟨3, ![1, 512, 128]⟩
abbrev S512x128 : Shape := ⟨2, ![512, 128]⟩
abbrev S128x128 : Shape := ⟨2, ![128, 128]⟩
abbrev S128x512 : Shape := ⟨2, ![128, 512]⟩
abbrev S512x512 : Shape := ⟨2, ![512, 512]⟩
abbrev S512 : Shape := ⟨1, ![512]⟩
abbrev S512x1 : Shape := ⟨2, ![512, 1]⟩
abbrev S128x1 : Shape := ⟨2, ![128, 1]⟩
abbrev S256x2048 : Shape := ⟨2, ![256, 2048]⟩
abbrev S1x2048x128 : Shape := ⟨3, ![1, 2048, 128]⟩
abbrev S2048x128 : Shape := ⟨2, ![2048, 128]⟩
abbrev S1x1x1024 : Shape := ⟨3, ![1, 1, 1024]⟩
abbrev S1x1024 : Shape := ⟨2, ![1, 1024]⟩

abbrev nBuf : Space → Nat
  | .hbm => 372
  | .vmem => 34
  | .smem => 1
  | _ => 0

abbrev hbmTy0_0 (i : Nat) : BufTy := match i % 128 with
  | 0 => ⟨S1, .i32⟩
  | 1 => ⟨S32x2048x1024, .f32⟩
  | 2 => ⟨S32x6144, .f32⟩
  | 3 => ⟨S32x2048x3072, .bf16⟩
  | 4 => ⟨S32x2048x2048, .bf16⟩
  | 5 => ⟨S8x15x31, .f32⟩
  | 6 => ⟨S64, .f32⟩
  | 7 => ⟨S64, .f32⟩
  | 8 => ⟨S64, .f32⟩
  | 9 => ⟨S64, .f32⟩
  | 10 => ⟨S128, .f32⟩
  | 11 => ⟨S512x1024, .f32⟩
  | 12 => ⟨S512x1024, .f32⟩
  | 13 => ⟨S1024x1024, .f32⟩
  | 14 => ⟨S1x64, .f32⟩
  | 15 => ⟨S1x64, .f32⟩
  | 16 => ⟨S1x64, .f32⟩
  | 17 => ⟨S1x64, .f32⟩
  | 18 => ⟨S4x64, .f32⟩
  | 19 => ⟨S_, .i32⟩
  | 20 => ⟨S_, .f32⟩
  | 21 => ⟨S4x128, .f32⟩
  | 22 => ⟨S32x6x1024, .f32⟩
  | 23 => ⟨S_, .f32⟩
  | 24 => ⟨S8x15x96, .f32⟩
  | 25 => ⟨S8x15x16, .f32⟩
  | 26 => ⟨S8x15x15, .f32⟩
  | 27 => ⟨S8x15x127, .f32⟩
  | 28 => ⟨S1x8x1x15x1x127, .f32⟩
  | 29 => ⟨S1x8x1x15x64x127, .f32⟩
  | 30 => ⟨S8x15x8128, .f32⟩
  | 31 => ⟨S8x15x8064, .f32⟩
  | 32 => ⟨S8x15x64x126, .f32⟩
  | 33 => ⟨S8x15x64x64, .f32⟩
  | 34 => ⟨S64, .i32⟩
  | 35 => ⟨S_, .i32⟩
  | 36 => ⟨S64, .i32⟩
  | 37 => ⟨S64, .i32⟩
  | 38 => ⟨S_, .i32⟩
  | 39 => ⟨S_, .i32⟩
  | 40 => ⟨S_, .i32⟩
  | 41 => ⟨S64, .i32⟩
  | 42 => ⟨S64, .i32⟩
  | 43 => ⟨S_, .i32⟩
  | 44 => ⟨S64, .i32⟩
  | 45 => ⟨S64, .i32⟩
  | 46 => ⟨S64, .i32⟩
  | 47 => ⟨S1x64, .i32⟩
  | 48 => ⟨S64x1, .i32⟩
  | 49 => ⟨S64x64, .i32⟩
  | 50 => ⟨S64x64, .i32⟩
  | 51 => ⟨S64x64, .i1⟩
  | 52 => ⟨S1x64, .i32⟩
  | 53 => ⟨S64x1, .i32⟩
  | 54 => ⟨S_, .i32⟩
  | 55 => ⟨S64x1, .i32⟩
  | 56 => ⟨S64x1, .i32⟩
  | 57 => ⟨S64x64, .i32⟩
  | 58 => ⟨S64x64, .i32⟩
  | 59 => ⟨S64x64, .i1⟩
  | 60 => ⟨S64x64, .i1⟩
  | 61 => ⟨S1x1x64x64, .i1⟩
  | 62 => ⟨S_, .f32⟩
  | 63 => ⟨S8x15x64x64, .f32⟩
  | 64 => ⟨S8x15x64x64, .f32⟩
  | 65 => ⟨S_, .f32⟩
  | 66 => ⟨S_, .f32⟩
  | 67 => ⟨S8x15x64x64, .i1⟩
  | 68 => ⟨S8x15x64x64, .f32⟩
  | 69 => ⟨S8x15x64x64, .f32⟩
  | 70 => ⟨S8x14x64x64, .f32⟩
  | 71 => ⟨S8x14x64x64, .f32⟩
  | 72 => ⟨S8x14x64x128, .f32⟩
  | 73 => ⟨S14x8x64x128, .f32⟩
  | 74 => ⟨S14x512x128, .f32⟩
  | 75 => ⟨S8x256x128, .i32⟩
  | 76 => ⟨S8x256x128, .i32⟩
  | 77 => ⟨S8x256x128, .f32⟩
  | 78 => ⟨S_, .i32⟩
  | 79 => ⟨S8x256x128, .i32⟩
  | 80 => ⟨S8x256x128, .i32⟩
  | 81 => ⟨S8x256x128, .i32⟩
  | 82 => ⟨S8x256x128, .i1⟩
  | 83 => ⟨S_, .i32⟩
  | 84 => ⟨S8x256x128, .i32⟩
  | 85 => ⟨S8x256x128, .i32⟩
  | 86 => ⟨S_, .i32⟩
  | 87 => ⟨S8x256x128, .i32⟩
  | 88 => ⟨S8x256x128, .i1⟩
  | 89 => ⟨S_, .f32⟩
  | 90 => ⟨S_, .f32⟩
  | 91 => ⟨S8x256x128, .f32⟩
  | 92 => ⟨S8x256x128, .f32⟩
  | 93 => ⟨S_, .f32⟩
  | 94 => ⟨S_, .f32⟩
  | 95 => ⟨S8x256x128, .f32⟩
  | 96 => ⟨S8x256x128, .f32⟩
  | 97 => ⟨S8x256x128, .bf16⟩
  | 98 => ⟨S4096x128, .i32⟩
  | 99 => ⟨S4096x128, .i32⟩
  | 100 => ⟨S_, .i32⟩
  | 101 => ⟨S4096x128, .i32⟩
  | 102 => ⟨S4096x128, .i32⟩
  | 103 => ⟨S_, .i32⟩
  | 104 => ⟨S4096x128, .i32⟩
  | 105 => ⟨S4096x128, .i32⟩
  | 106 => ⟨S_, .i32⟩
  | 107 => ⟨S4096x128, .i32⟩
  | 108 => ⟨S4096x128, .i32⟩
  | 109 => ⟨S_, .i32⟩
  | 110 => ⟨S4096x128, .i32⟩
  | 111 => ⟨S4096x128, .i1⟩
  | 112 => ⟨S_, .i32⟩
  | 113 => ⟨S4096x128, .i32⟩
  | 114 => ⟨S4096x128, .i32⟩
  | 115 => ⟨S4096x128, .i1⟩
  | 116 => ⟨S4096x128, .i1⟩
  | 117 => ⟨S_, .i32⟩
  | 118 => ⟨S4096x128, .i32⟩
  | 119 => ⟨S4096x128, .i32⟩
  | 120 => ⟨S4096x128, .i1⟩
  | 121 => ⟨S4096x128, .i1⟩
  | 122 => ⟨S_, .i32⟩
  | 123 => ⟨S4096x128, .i32⟩
  | 124 => ⟨S4096x128, .i1⟩
  | 125 => ⟨S4096x128, .i32⟩
  | 126 => ⟨S_, .i32⟩
  | 127 => ⟨S4096x128, .i32⟩
  | _ => ⟨S1, .i32⟩

abbrev hbmTy0_1 (i : Nat) : BufTy := match i % 128 with
  | 0 => ⟨S4096x128, .i32⟩
  | 1 => ⟨S4096x128, .i32⟩
  | 2 => ⟨S4096x128, .i32⟩
  | 3 => ⟨S_, .f32⟩
  | 4 => ⟨S_, .f32⟩
  | 5 => ⟨S4096x128, .f32⟩
  | 6 => ⟨S4096x128, .f32⟩
  | 7 => ⟨S4096x128, .f32⟩
  | 8 => ⟨S4096x128, .i32⟩
  | 9 => ⟨S4096x128, .i32⟩
  | 10 => ⟨S4096x128, .f32⟩
  | 11 => ⟨S256x256, .i32⟩
  | 12 => ⟨S256x256, .f32⟩
  | 13 => ⟨S256x256, .i32⟩
  | 14 => ⟨S256x256, .f32⟩
  | 15 => ⟨S256x256, .f32⟩
  | 16 => ⟨S256x256, .f32⟩
  | 17 => ⟨S_, .f32⟩
  | 18 => ⟨S4096x128, .f32⟩
  | 19 => ⟨S4096x128, .bf16⟩
  | 20 => ⟨S4096x128, .f32⟩
  | 21 => ⟨S4096x128, .f32⟩
  | 22 => ⟨S4096x128, .bf16⟩
  | 23 => ⟨S4096x128, .f32⟩
  | 24 => ⟨S4096x128, .f32⟩
  | 25 => ⟨S4096x128, .f32⟩
  | 26 => ⟨S4096x128, .f32⟩
  | 27 => ⟨S4096x128, .f32⟩
  | 28 => ⟨S4096x128, .f32⟩
  | 29 => ⟨S4096x128, .bf16⟩
  | 30 => ⟨S4096x128, .f32⟩
  | 31 => ⟨S4096x128, .f32⟩
  | 32 => ⟨S4096x128, .f32⟩
  | 33 => ⟨S4096x128, .f32⟩
  | 34 => ⟨S4096x128, .bf16⟩
  | 35 => ⟨S_, .f32⟩
  | 36 => ⟨S4096x128, .f32⟩
  | 37 => ⟨S4096x128, .f32⟩
  | 38 => ⟨S4096x128, .bf16⟩
  | 39 => ⟨S4096x128, .f32⟩
  | 40 => ⟨S4096x128, .f32⟩
  | 41 => ⟨S4096x128, .bf16⟩
  | 42 => ⟨S4096x128, .f32⟩
  | 43 => ⟨S4096x128, .f32⟩
  | 44 => ⟨S4096x128, .bf16⟩
  | 45 => ⟨S4096x128, .f32⟩
  | 46 => ⟨S4096x128, .f32⟩
  | 47 => ⟨S_, .i32⟩
  | 48 => ⟨S4096x128, .i32⟩
  | 49 => ⟨S4096x128, .i1⟩
  | 50 => ⟨S4096x128, .bf16⟩
  | 51 => ⟨S_, .i32⟩
  | 52 => ⟨S4096x128, .i32⟩
  | 53 => ⟨S4096x128, .i1⟩
  | 54 => ⟨S4096x128, .bf16⟩
  | 55 => ⟨S_, .i32⟩
  | 56 => ⟨S4096x128, .i32⟩
  | 57 => ⟨S4096x128, .i1⟩
  | 58 => ⟨S4096x128, .bf16⟩
  | 59 => ⟨S_, .i32⟩
  | 60 => ⟨S4096x128, .i32⟩
  | 61 => ⟨S4096x128, .i1⟩
  | 62 => ⟨S4096x128, .bf16⟩
  | 63 => ⟨S_, .bf16⟩
  | 64 => ⟨S4096x128, .bf16⟩
  | 65 => ⟨S4096x128, .bf16⟩
  | 66 => ⟨S_, .f32⟩
  | 67 => ⟨S256x256, .f32⟩
  | 68 => ⟨S256x256, .f32⟩
  | 69 => ⟨S256x256, .f32⟩
  | 70 => ⟨S_, .f32⟩
  | 71 => ⟨S4096x128, .f32⟩
  | 72 => ⟨S4096x128, .bf16⟩
  | 73 => ⟨S4096x128, .f32⟩
  | 74 => ⟨S4096x128, .f32⟩
  | 75 => ⟨S4096x128, .bf16⟩
  | 76 => ⟨S4096x128, .f32⟩
  | 77 => ⟨S4096x128, .f32⟩
  | 78 => ⟨S4096x128, .f32⟩
  | 79 => ⟨S4096x128, .f32⟩
  | 80 => ⟨S4096x128, .f32⟩
  | 81 => ⟨S4096x128, .f32⟩
  | 82 => ⟨S4096x128, .bf16⟩
  | 83 => ⟨S4096x128, .f32⟩
  | 84 => ⟨S4096x128, .f32⟩
  | 85 => ⟨S4096x128, .f32⟩
  | 86 => ⟨S4096x128, .f32⟩
  | 87 => ⟨S4096x128, .bf16⟩
  | 88 => ⟨S_, .f32⟩
  | 89 => ⟨S4096x128, .f32⟩
  | 90 => ⟨S4096x128, .f32⟩
  | 91 => ⟨S4096x128, .bf16⟩
  | 92 => ⟨S4096x128, .f32⟩
  | 93 => ⟨S4096x128, .f32⟩
  | 94 => ⟨S4096x128, .bf16⟩
  | 95 => ⟨S4096x128, .f32⟩
  | 96 => ⟨S4096x128, .f32⟩
  | 97 => ⟨S4096x128, .bf16⟩
  | 98 => ⟨S4096x128, .f32⟩
  | 99 => ⟨S4096x128, .f32⟩
  | 100 => ⟨S_, .i32⟩
  | 101 => ⟨S4096x128, .i32⟩
  | 102 => ⟨S4096x128, .i1⟩
  | 103 => ⟨S4096x128, .bf16⟩
  | 104 => ⟨S_, .i32⟩
  | 105 => ⟨S4096x128, .i32⟩
  | 106 => ⟨S4096x128, .i1⟩
  | 107 => ⟨S4096x128, .bf16⟩
  | 108 => ⟨S_, .i32⟩
  | 109 => ⟨S4096x128, .i32⟩
  | 110 => ⟨S4096x128, .i1⟩
  | 111 => ⟨S4096x128, .bf16⟩
  | 112 => ⟨S_, .i32⟩
  | 113 => ⟨S4096x128, .i32⟩
  | 114 => ⟨S4096x128, .i1⟩
  | 115 => ⟨S4096x128, .bf16⟩
  | 116 => ⟨S_, .bf16⟩
  | 117 => ⟨S4096x128, .bf16⟩
  | 118 => ⟨S4096x128, .bf16⟩
  | 119 => ⟨S_, .f32⟩
  | 120 => ⟨S256x256, .f32⟩
  | 121 => ⟨S256x256, .f32⟩
  | 122 => ⟨S256x256, .f32⟩
  | 123 => ⟨S_, .f32⟩
  | 124 => ⟨S4096x128, .f32⟩
  | 125 => ⟨S4096x128, .bf16⟩
  | 126 => ⟨S4096x128, .f32⟩
  | 127 => ⟨S4096x128, .f32⟩
  | _ => ⟨S1, .i32⟩

abbrev hbmTy0_2 (i : Nat) : BufTy := match i % 128 with
  | 0 => ⟨S4096x128, .bf16⟩
  | 1 => ⟨S4096x128, .f32⟩
  | 2 => ⟨S4096x128, .f32⟩
  | 3 => ⟨S4096x128, .f32⟩
  | 4 => ⟨S4096x128, .f32⟩
  | 5 => ⟨S4096x128, .f32⟩
  | 6 => ⟨S4096x128, .f32⟩
  | 7 => ⟨S4096x128, .bf16⟩
  | 8 => ⟨S4096x128, .f32⟩
  | 9 => ⟨S4096x128, .f32⟩
  | 10 => ⟨S4096x128, .f32⟩
  | 11 => ⟨S4096x128, .f32⟩
  | 12 => ⟨S4096x128, .bf16⟩
  | 13 => ⟨S_, .f32⟩
  | 14 => ⟨S4096x128, .f32⟩
  | 15 => ⟨S4096x128, .f32⟩
  | 16 => ⟨S4096x128, .bf16⟩
  | 17 => ⟨S4096x128, .f32⟩
  | 18 => ⟨S4096x128, .f32⟩
  | 19 => ⟨S4096x128, .bf16⟩
  | 20 => ⟨S4096x128, .f32⟩
  | 21 => ⟨S4096x128, .f32⟩
  | 22 => ⟨S4096x128, .bf16⟩
  | 23 => ⟨S4096x128, .f32⟩
  | 24 => ⟨S4096x128, .f32⟩
  | 25 => ⟨S_, .i32⟩
  | 26 => ⟨S4096x128, .i32⟩
  | 27 => ⟨S4096x128, .i1⟩
  | 28 => ⟨S4096x128, .bf16⟩
  | 29 => ⟨S_, .i32⟩
  | 30 => ⟨S4096x128, .i32⟩
  | 31 => ⟨S4096x128, .i1⟩
  | 32 => ⟨S4096x128, .bf16⟩
  | 33 => ⟨S_, .i32⟩
  | 34 => ⟨S4096x128, .i32⟩
  | 35 => ⟨S4096x128, .i1⟩
  | 36 => ⟨S4096x128, .bf16⟩
  | 37 => ⟨S_, .i32⟩
  | 38 => ⟨S4096x128, .i32⟩
  | 39 => ⟨S4096x128, .i1⟩
  | 40 => ⟨S4096x128, .bf16⟩
  | 41 => ⟨S_, .bf16⟩
  | 42 => ⟨S4096x128, .bf16⟩
  | 43 => ⟨S4096x128, .bf16⟩
  | 44 => ⟨S_, .f32⟩
  | 45 => ⟨S256x256, .f32⟩
  | 46 => ⟨S256x256, .f32⟩
  | 47 => ⟨S256x256, .f32⟩
  | 48 => ⟨S_, .f32⟩
  | 49 => ⟨S4096x128, .f32⟩
  | 50 => ⟨S4096x128, .bf16⟩
  | 51 => ⟨S4096x128, .f32⟩
  | 52 => ⟨S4096x128, .f32⟩
  | 53 => ⟨S4096x128, .bf16⟩
  | 54 => ⟨S4096x128, .f32⟩
  | 55 => ⟨S4096x128, .f32⟩
  | 56 => ⟨S4096x128, .f32⟩
  | 57 => ⟨S4096x128, .f32⟩
  | 58 => ⟨S4096x128, .f32⟩
  | 59 => ⟨S4096x128, .f32⟩
  | 60 => ⟨S4096x128, .bf16⟩
  | 61 => ⟨S4096x128, .f32⟩
  | 62 => ⟨S4096x128, .f32⟩
  | 63 => ⟨S4096x128, .f32⟩
  | 64 => ⟨S4096x128, .f32⟩
  | 65 => ⟨S4096x128, .bf16⟩
  | 66 => ⟨S_, .f32⟩
  | 67 => ⟨S4096x128, .f32⟩
  | 68 => ⟨S4096x128, .f32⟩
  | 69 => ⟨S4096x128, .bf16⟩
  | 70 => ⟨S4096x128, .f32⟩
  | 71 => ⟨S4096x128, .f32⟩
  | 72 => ⟨S4096x128, .bf16⟩
  | 73 => ⟨S4096x128, .f32⟩
  | 74 => ⟨S4096x128, .f32⟩
  | 75 => ⟨S4096x128, .bf16⟩
  | 76 => ⟨S4096x128, .f32⟩
  | 77 => ⟨S4096x128, .f32⟩
  | 78 => ⟨S_, .i32⟩
  | 79 => ⟨S4096x128, .i32⟩
  | 80 => ⟨S4096x128, .i1⟩
  | 81 => ⟨S4096x128, .bf16⟩
  | 82 => ⟨S_, .i32⟩
  | 83 => ⟨S4096x128, .i32⟩
  | 84 => ⟨S4096x128, .i1⟩
  | 85 => ⟨S4096x128, .bf16⟩
  | 86 => ⟨S_, .i32⟩
  | 87 => ⟨S4096x128, .i32⟩
  | 88 => ⟨S4096x128, .i1⟩
  | 89 => ⟨S4096x128, .bf16⟩
  | 90 => ⟨S_, .i32⟩
  | 91 => ⟨S4096x128, .i32⟩
  | 92 => ⟨S4096x128, .i1⟩
  | 93 => ⟨S4096x128, .bf16⟩
  | 94 => ⟨S_, .bf16⟩
  | 95 => ⟨S4096x128, .bf16⟩
  | 96 => ⟨S4096x128, .bf16⟩
  | 97 => ⟨S_, .f32⟩
  | 98 => ⟨S256x256, .f32⟩
  | 99 => ⟨S256x256, .f32⟩
  | 100 => ⟨S256x256, .f32⟩
  | 101 => ⟨S1x4096x128, .bf16⟩
  | 102 => ⟨S1x4096x128, .bf16⟩
  | 103 => ⟨S1x4096x128, .bf16⟩
  | 104 => ⟨S1x4096x128, .bf16⟩
  | 105 => ⟨S4x4096x128, .bf16⟩
  | 106 => ⟨S1x256x256, .f32⟩
  | 107 => ⟨S1x256x256, .f32⟩
  | 108 => ⟨S1x256x256, .f32⟩
  | 109 => ⟨S1x256x256, .f32⟩
  | 110 => ⟨S4x256x256, .f32⟩
  | 111 => ⟨S1x128, .f32⟩
  | 112 => ⟨S512x1024, .bf16⟩
  | 113 => ⟨S512x1024, .bf16⟩
  | 114 => ⟨S1024x1024, .bf16⟩
  | 115 => ⟨S32x2048x1024, .f32⟩
  | _ => ⟨S1, .i32⟩

abbrev hbmTy (i : Nat) : BufTy := match i / 128 with
  | 0 => hbmTy0_0 i
  | 1 => hbmTy0_1 i
  | 2 => hbmTy0_2 i
  | _ => ⟨S1, .i32⟩

abbrev bufTy : (tb : Table) → Fin (tcTables nBuf tb) → BufTy
  | .hbm, ⟨i, _⟩ => hbmTy i
  | .local _ .vmem, ⟨0, _⟩ => ⟨S1x256x512, .bf16⟩
  | .local _ .vmem, ⟨1, _⟩ => ⟨S1x256x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x256x2048, .bf16⟩
  | .local _ .vmem, ⟨13, _⟩ => ⟨S1x256x2048, .bf16⟩
  | .local _ .vmem, ⟨14, _⟩ => ⟨S1x256x1024, .f32⟩
  | .local _ .vmem, ⟨15, _⟩ => ⟨S1x256x1024, .f32⟩
  | .local _ .vmem, ⟨16, _⟩ => ⟨S1x6x1024, .f32⟩
  | .local _ .vmem, ⟨17, _⟩ => ⟨S1x6x1024, .f32⟩
  | .local _ .vmem, ⟨18, _⟩ => ⟨S14x512x128, .f32⟩
  | .local _ .vmem, ⟨19, _⟩ => ⟨S4x4096x128, .bf16⟩
  | .local _ .vmem, ⟨20, _⟩ => ⟨S8x256x128, .bf16⟩
  | .local _ .vmem, ⟨21, _⟩ => ⟨S4x256x256, .f32⟩
  | .local _ .vmem, ⟨22, _⟩ => ⟨S4x128, .f32⟩
  | .local _ .vmem, ⟨23, _⟩ => ⟨S1x128, .f32⟩
  | .local _ .vmem, ⟨24, _⟩ => ⟨S512x1024, .bf16⟩
  | .local _ .vmem, ⟨25, _⟩ => ⟨S512x1024, .bf16⟩
  | .local _ .vmem, ⟨26, _⟩ => ⟨S1024x1024, .bf16⟩
  | .local _ .vmem, ⟨27, _⟩ => ⟨S1x256x1024, .f32⟩
  | .local _ .vmem, ⟨28, _⟩ => ⟨S1x256x1024, .f32⟩
  | .local _ .vmem, ⟨29, _⟩ => ⟨S256x512, .bf16⟩
  | .local _ .vmem, ⟨30, _⟩ => ⟨S256x512, .bf16⟩
  | .local _ .vmem, ⟨31, _⟩ => ⟨S256x1024, .f32⟩
  | .local _ .vmem, ⟨32, _⟩ => ⟨S4096x512, .bf16⟩
  | .local _ .vmem, ⟨33, _⟩ => ⟨S4096x512, .bf16⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_0 : Ref sig .tc := ⟨.hbm, 35, rfl⟩
abbrev main_v18 : Ref sig .tc := ⟨.hbm, 36, rfl⟩
abbrev main_v19 : Ref sig .tc := ⟨.hbm, 37, rfl⟩
abbrev main_c_1 : Ref sig .tc := ⟨.hbm, 38, rfl⟩
abbrev main_c_2 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_4 : Ref sig .tc := ⟨.hbm, 62, rfl⟩
abbrev main_v36 : Ref sig .tc := ⟨.hbm, 63, rfl⟩
abbrev main_v37 : Ref sig .tc := ⟨.hbm, 64, rfl⟩
abbrev main_cst_5 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_6 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_7 : Ref sig .tc := ⟨.hbm, 83, rfl⟩
abbrev main_v51 : Ref sig .tc := ⟨.hbm, 84, rfl⟩
abbrev main_v52 : Ref sig .tc := ⟨.hbm, 85, rfl⟩
abbrev main_c_8 : Ref sig .tc := ⟨.hbm, 86, rfl⟩
abbrev main_v53 : Ref sig .tc := ⟨.hbm, 87, rfl⟩
abbrev main_v54 : Ref sig .tc := ⟨.hbm, 88, rfl⟩
abbrev main_cst_9 : Ref sig .tc := ⟨.hbm, 89, rfl⟩
abbrev main_call3_v0 : Ref sig .tc := ⟨.hbm, 90, rfl⟩
abbrev main_call3_v1 : Ref sig .tc := ⟨.hbm, 91, rfl⟩
abbrev main_v55 : Ref sig .tc := ⟨.hbm, 92, rfl⟩
abbrev main_cst_10 : Ref sig .tc := ⟨.hbm, 93, rfl⟩
abbrev main_call4_v0 : Ref sig .tc := ⟨.hbm, 94, rfl⟩
abbrev main_call4_v1 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_c_11 : Ref sig .tc := ⟨.hbm, 100, rfl⟩
abbrev main_v60 : Ref sig .tc := ⟨.hbm, 101, rfl⟩
abbrev main_v61 : Ref sig .tc := ⟨.hbm, 102, rfl⟩
abbrev main_c_12 : Ref sig .tc := ⟨.hbm, 103, rfl⟩
abbrev main_v62 : Ref sig .tc := ⟨.hbm, 104, rfl⟩
abbrev main_v63 : Ref sig .tc := ⟨.hbm, 105, rfl⟩
abbrev main_c_13 : Ref sig .tc := ⟨.hbm, 106, rfl⟩
abbrev main_v64 : Ref sig .tc := ⟨.hbm, 107, rfl⟩
abbrev main_v65 : Ref sig .tc := ⟨.hbm, 108, rfl⟩
abbrev main_c_14 : Ref sig .tc := ⟨.hbm, 109, rfl⟩
abbrev main_v66 : Ref sig .tc := ⟨.hbm, 110, rfl⟩
abbrev main_v67 : Ref sig .tc := ⟨.hbm, 111, rfl⟩
abbrev main_c_15 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_c_16 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_c_17 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_c_18 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_cst_19 : Ref sig .tc := ⟨.hbm, 131, rfl⟩
abbrev main_cst_20 : Ref sig .tc := ⟨.hbm, 132, rfl⟩
abbrev main_call6_v0 : Ref sig .tc := ⟨.hbm, 133, rfl⟩
abbrev main_call6_v1 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_cst_21 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_cst_22 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_c_23 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_c_24 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_c_25 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_c_26 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_cst_27 : Ref sig .tc := ⟨.hbm, 191, rfl⟩
abbrev main_v133 : Ref sig .tc := ⟨.hbm, 192, rfl⟩
abbrev main_v134 : Ref sig .tc := ⟨.hbm, 193, rfl⟩
abbrev main_cst_28 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_cst_29 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_cst_30 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_c_31 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_c_32 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_c_33 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_c_34 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_cst_35 : Ref sig .tc := ⟨.hbm, 244, rfl⟩
abbrev main_v178 : Ref sig .tc := ⟨.hbm, 245, rfl⟩
abbrev main_v179 : Ref sig .tc := ⟨.hbm, 246, rfl⟩
abbrev main_cst_36 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_cst_37 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_cst_38 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_c_39 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_c_40 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_c_41 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_c_42 : Ref sig .tc := ⟨.hbm, 293, rfl⟩
abbrev main_v220 : Ref sig .tc := ⟨.hbm, 294, rfl⟩
abbrev main_v221 : Ref sig .tc := ⟨.hbm, 295, rfl⟩
abbrev main_v222 : Ref sig .tc := ⟨.hbm, 296, rfl⟩
abbrev main_cst_43 : Ref sig .tc := ⟨.hbm, 297, rfl⟩
abbrev main_v223 : Ref sig .tc := ⟨.hbm, 298, rfl⟩
abbrev main_v224 : Ref sig .tc := ⟨.hbm, 299, rfl⟩
abbrev main_cst_44 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_cst_45 : Ref sig .tc := ⟨.hbm, 304, rfl⟩
abbrev main_v228 : Ref sig .tc := ⟨.hbm, 305, rfl⟩
abbrev main_v229 : Ref sig .tc := ⟨.hbm, 306, rfl⟩
abbrev main_v230 : Ref sig .tc := ⟨.hbm, 307, rfl⟩
abbrev main_v231 : Ref sig .tc := ⟨.hbm, 308, rfl⟩
abbrev main_v232 : Ref sig .tc := ⟨.hbm, 309, rfl⟩
abbrev main_v233 : Ref sig .tc := ⟨.hbm, 310, rfl⟩
abbrev main_v234 : Ref sig .tc := ⟨.hbm, 311, rfl⟩
abbrev main_v235 : Ref sig .tc := ⟨.hbm, 312, rfl⟩
abbrev main_v236 : Ref sig .tc := ⟨.hbm, 313, rfl⟩
abbrev main_v237 : Ref sig .tc := ⟨.hbm, 314, rfl⟩
abbrev main_v238 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_v243 : Ref sig .tc := ⟨.hbm, 320, rfl⟩
abbrev main_v244 : Ref sig .tc := ⟨.hbm, 321, rfl⟩
abbrev main_cst_46 : Ref sig .tc := ⟨.hbm, 322, rfl⟩
abbrev main_v245 : Ref sig .tc := ⟨.hbm, 323, rfl⟩
abbrev main_v246 : Ref sig .tc := ⟨.hbm, 324, rfl⟩
abbrev main_v247 : Ref sig .tc := ⟨.hbm, 325, rfl⟩
abbrev main_v248 : Ref sig .tc := ⟨.hbm, 326, rfl⟩
abbrev main_v249 : Ref sig .tc := ⟨.hbm, 327, rfl⟩
abbrev main_v250 : Ref sig .tc := ⟨.hbm, 328, rfl⟩
abbrev main_v251 : Ref sig .tc := ⟨.hbm, 329, rfl⟩
abbrev main_v252 : Ref sig .tc := ⟨.hbm, 330, rfl⟩
abbrev main_v253 : Ref sig .tc := ⟨.hbm, 331, rfl⟩
abbrev main_v254 : Ref sig .tc := ⟨.hbm, 332, rfl⟩
abbrev main_v255 : Ref sig .tc := ⟨.hbm, 333, rfl⟩
abbrev main_c_47 : Ref sig .tc := ⟨.hbm, 334, rfl⟩
abbrev main_v256 : Ref sig .tc := ⟨.hbm, 335, rfl⟩
abbrev main_v257 : Ref sig .tc := ⟨.hbm, 336, rfl⟩
abbrev main_v258 : Ref sig .tc := ⟨.hbm, 337, rfl⟩
abbrev main_c_48 : Ref sig .tc := ⟨.hbm, 338, rfl⟩
abbrev main_v259 : Ref sig .tc := ⟨.hbm, 339, rfl⟩
abbrev main_v260 : Ref sig .tc := ⟨.hbm, 340, rfl⟩
abbrev main_v261 : Ref sig .tc := ⟨.hbm, 341, rfl⟩
abbrev main_c_49 : Ref sig .tc := ⟨.hbm, 342, rfl⟩
abbrev main_v262 : Ref sig .tc := ⟨.hbm, 343, rfl⟩
abbrev main_v263 : Ref sig .tc := ⟨.hbm, 344, rfl⟩
abbrev main_v264 : Ref sig .tc := ⟨.hbm, 345, rfl⟩
abbrev main_c_50 : Ref sig .tc := ⟨.hbm, 346, rfl⟩
abbrev main_v265 : Ref sig .tc := ⟨.hbm, 347, rfl⟩
abbrev main_v266 : Ref sig .tc := ⟨.hbm, 348, rfl⟩
abbrev main_v267 : Ref sig .tc := ⟨.hbm, 349, rfl⟩
abbrev main_cst_51 : Ref sig .tc := ⟨.hbm, 350, rfl⟩
abbrev main_v268 : Ref sig .tc := ⟨.hbm, 351, rfl⟩
abbrev main_v269 : Ref sig .tc := ⟨.hbm, 352, rfl⟩
abbrev main_cst_52 : Ref sig .tc := ⟨.hbm, 353, rfl⟩
abbrev main_v270 : Ref sig .tc := ⟨.hbm, 354, rfl⟩
abbrev main_v271 : Ref sig .tc := ⟨.hbm, 355, rfl⟩
abbrev main_v272 : Ref sig .tc := ⟨.hbm, 356, rfl⟩
abbrev main_v273 : Ref sig .tc := ⟨.hbm, 357, rfl⟩
abbrev main_v274 : Ref sig .tc := ⟨.hbm, 358, rfl⟩
abbrev main_v275 : Ref sig .tc := ⟨.hbm, 359, rfl⟩
abbrev main_v276 : Ref sig .tc := ⟨.hbm, 360, rfl⟩
abbrev main_v277 : Ref sig .tc := ⟨.hbm, 361, rfl⟩
abbrev main_v278 : Ref sig .tc := ⟨.hbm, 362, rfl⟩
abbrev main_v279 : Ref sig .tc := ⟨.hbm, 363, rfl⟩
abbrev main_v280 : Ref sig .tc := ⟨.hbm, 364, rfl⟩
abbrev main_v281 : Ref sig .tc := ⟨.hbm, 365, rfl⟩
abbrev main_v282 : Ref sig .tc := ⟨.hbm, 366, rfl⟩
abbrev main_v283 : Ref sig .tc := ⟨.hbm, 367, rfl⟩
abbrev main_v284 : Ref sig .tc := ⟨.hbm, 368, rfl⟩
abbrev main_v285 : Ref sig .tc := ⟨.hbm, 369, rfl⟩
abbrev main_v286 : Ref sig .tc := ⟨.hbm, 370, rfl⟩
abbrev main_v287 : Ref sig .tc := ⟨.hbm, 371, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg19_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_mult2 (i : grid0.Coords) : BitVec 32 :=
  let arg1 : BitVec 32 := BitVec.ofNat 32 (i 1).val
  let c256_i32 : BitVec 32 := 256#32
  let v0 : BitVec 32 := Scalar.muli arg1 c256_i32
  let v1 : BitVec 32 := v0
  let c256_i32_40 : BitVec 32 := 256#32
  let v65 : BitVec 32 := Scalar.addi v1 c256_i32_40
  v65
def k0_off1 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let c256_i32_40 : BitVec 32 := 256#32
  let v65 : BitVec 32 := Scalar.addi v1 c256_i32_40
  let v66 : BitVec 32 := v65
  let v67 : Index := Scalar.indexCast v66
  let c0_41 : Index := 0#32
  ![v67.toNat, 0]
def k0_off2 (i : grid0.Coords) : Fin 3 → Nat :=
  let c0_42 : Index := 0#32
  let arg1 : BitVec 32 := BitVec.ofNat 32 (i 1).val
  let c256_i32 : BitVec 32 := 256#32
  let v0 : BitVec 32 := Scalar.muli arg1 c256_i32
  let v1 : BitVec 32 := v0
  let c256_i32_40 : BitVec 32 := 256#32
  let v65 : BitVec 32 := Scalar.addi v1 c256_i32_40
  let v66 : BitVec 32 := v65
  let v69 : Index := Scalar.indexCast v66
  let c0_43 : Index := 0#32
  ![0, v69.toNat, 0]
def k0_off3 (i : grid0.Coords) : Fin 3 → Nat :=
  let c0_44 : Index := 0#32
  let arg1 : BitVec 32 := BitVec.ofNat 32 (i 1).val
  let c256_i32 : BitVec 32 := 256#32
  let v0 : BitVec 32 := Scalar.muli arg1 c256_i32
  let v1 : BitVec 32 := v0
  let v72 : Index := Scalar.indexCast v1
  let c0_45 : Index := 0#32
  ![0, v72.toNat, 0]
def k0_off4 (i : grid0.Coords) : Fin 3 → Nat :=
  let arg1 : BitVec 32 := BitVec.ofNat 32 (i 1).val
  let v76 : Index := Scalar.indexCast arg1
  let c0_46 : Index := 0#32
  let c0_47 : Index := 0#32
  ![v76.toNat, 0, 0]
def k0_mult3 (i : grid0.Coords) : BitVec 32 :=
  let c24_i32 : BitVec 32 := 24#32
  let c0_i32_68 : BitVec 32 := 0#32
  let arg1 : BitVec 32 := BitVec.ofNat 32 (i 1).val
  let c4_i32 : BitVec 32 := 4#32
  let v117 : BitVec 32 := Scalar.muli arg1 c4_i32
  let c0_i32_66 : BitVec 32 := 0#32
  let v118 : BitVec 32 := Scalar.addi v117 c0_i32_66
  let c4_i32_67 : BitVec 32 := 4#32
  let v119 : BitVec 32 := Scalar.subi v118 c4_i32_67
  let v120 : BitVec 32 := Scalar.maxsi c0_i32_68 v119
  let v121 : BitVec 32 := Scalar.minsi c24_i32 v120
  let c64_i32_69 : BitVec 32 := 64#32
  let v122 : BitVec 32 := Scalar.muli v121 c64_i32_69
  v122
def k0_off5 (i : grid0.Coords) (c0_i32_66 : BitVec 32) : Fin 3 → Nat :=
  let c0_73 : Index := 0#32
  let c24_i32 : BitVec 32 := 24#32
  let c0_i32_68 : BitVec 32 := 0#32
  let arg1 : BitVec 32 := BitVec.ofNat 32 (i 1).val
  let c4_i32 : BitVec 32 := 4#32
  let v117 : BitVec 32 := Scalar.muli arg1 c4_i32
  let v118 : BitVec 32 := Scalar.addi v117 c0_i32_66
  let c4_i32_67 : BitVec 32 := 4#32
  let v119 : BitVec 32 := Scalar.subi v118 c4_i32_67
  let v120 : BitVec 32 := Scalar.maxsi c0_i32_68 v119
  let v121 : BitVec 32 := Scalar.minsi c24_i32 v120
  let c64_i32_69 : BitVec 32 := 64#32
  let v122 : BitVec 32 := Scalar.muli v121 c64_i32_69
  let v123 : BitVec 32 := v122
  let v126 : Index := Scalar.indexCast v123
  let c0_74 : Index := 0#32
  ![0, v126.toNat, 0]
def k0_off6 (i : grid0.Coords) (c0_i32_66 : BitVec 32) : Fin 3 → Nat :=
  let c0_79 : Index := 0#32
  let c24_i32 : BitVec 32 := 24#32
  let c0_i32_68 : BitVec 32 := 0#32
  let arg1 : BitVec 32 := BitVec.ofNat 32 (i 1).val
  let c4_i32 : BitVec 32 := 4#32
  let v117 : BitVec 32 := Scalar.muli arg1 c4_i32
  let v118 : BitVec 32 := Scalar.addi v117 c0_i32_66
  let c4_i32_67 : BitVec 32 := 4#32
  let v119 : BitVec 32 := Scalar.subi v118 c4_i32_67
  let v120 : BitVec 32 := Scalar.maxsi c0_i32_68 v119
  let v121 : BitVec 32 := Scalar.minsi c24_i32 v120
  let c64_i32_69 : BitVec 32 := 64#32
  let v122 : BitVec 32 := Scalar.muli v121 c64_i32_69
  let v123 : BitVec 32 := v122
  let v140 : Index := Scalar.indexCast v123
  let c128_80 : Index := 128#32
  ![0, v140.toNat, 128]
def k0_off7 (i : grid0.Coords) (c0_i32_66 : BitVec 32) : Fin 3 → Nat :=
  let c0_85 : Index := 0#32
  let c24_i32 : BitVec 32 := 24#32
  let c0_i32_68 : BitVec 32 := 0#32
  let arg1 : BitVec 32 := BitVec.ofNat 32 (i 1).val
  let c4_i32 : BitVec 32 := 4#32
  let v117 : BitVec 32 := Scalar.muli arg1 c4_i32
  let v118 : BitVec 32 := Scalar.addi v117 c0_i32_66
  let c4_i32_67 : BitVec 32 := 4#32
  let v119 : BitVec 32 := Scalar.subi v118 c4_i32_67
  let v120 : BitVec 32 := Scalar.maxsi c0_i32_68 v119
  let v121 : BitVec 32 := Scalar.minsi c24_i32 v120
  let c64_i32_69 : BitVec 32 := 64#32
  let v122 : BitVec 32 := Scalar.muli v121 c64_i32_69
  let v123 : BitVec 32 := v122
  let v154 : Index := Scalar.indexCast v123
  let c256_86 : Index := 256#32
  ![0, v154.toNat, 256]
def k0_off8 (i : grid0.Coords) (c0_i32_66 : BitVec 32) : Fin 3 → Nat :=
  let c0_91 : Index := 0#32
  let c24_i32 : BitVec 32 := 24#32
  let c0_i32_68 : BitVec 32 := 0#32
  let arg1 : BitVec 32 := BitVec.ofNat 32 (i 1).val
  let c4_i32 : BitVec 32 := 4#32
  let v117 : BitVec 32 := Scalar.muli arg1 c4_i32
  let v118 : BitVec 32 := Scalar.addi v117 c0_i32_66
  let c4_i32_67 : BitVec 32 := 4#32
  let v119 : BitVec 32 := Scalar.subi v118 c4_i32_67
  let v120 : BitVec 32 := Scalar.maxsi c0_i32_68 v119
  let v121 : BitVec 32 := Scalar.minsi c24_i32 v120
  let c64_i32_69 : BitVec 32 := 64#32
  let v122 : BitVec 32 := Scalar.muli v121 c64_i32_69
  let v123 : BitVec 32 := v122
  let v168 : Index := Scalar.indexCast v123
  let c384_92 : Index := 384#32
  ![0, v168.toNat, 384]
def k0_off9 (i : grid0.Coords) (c0_i32_66 : BitVec 32) (c0_i32_95 : BitVec 32) : Fin 3 → Nat :=
  let c24_i32 : BitVec 32 := 24#32
  let c0_i32_68 : BitVec 32 := 0#32
  let arg1 : BitVec 32 := BitVec.ofNat 32 (i 1).val
  let c4_i32 : BitVec 32 := 4#32
  let v117 : BitVec 32 := Scalar.muli arg1 c4_i32
  let v118 : BitVec 32 := Scalar.addi v117 c0_i32_66
  let c4_i32_67 : BitVec 32 := 4#32
  let v119 : BitVec 32 := Scalar.subi v118 c4_i32_67
  let v120 : BitVec 32 := Scalar.maxsi c0_i32_68 v119
  let v121 : BitVec 32 := Scalar.minsi c24_i32 v120
  let v180 : BitVec 32 := Scalar.subi v121 v118
  let c8_i32 : BitVec 32 := 8#32
  let v181 : BitVec 32 := Scalar.addi v180 c8_i32
  let c1_i32 : BitVec 32 := 1#32
  let v182 : BitVec 32 := Scalar.subi v181 c1_i32
  let v183 : BitVec 32 := Scalar.addi v182 c0_i32_95
  let v184 : Index := Scalar.indexCast v183
  let c0_96 : Index := 0#32
  let c0_97 : Index := 0#32
  ![v184.toNat, 0, 0]
def k0_mult4 (i : grid0.Coords) : BitVec 32 :=
  let c24_i32_132 : BitVec 32 := 24#32
  let c0_i32_131 : BitVec 32 := 0#32
  let arg1 : BitVec 32 := BitVec.ofNat 32 (i 1).val
  let c4_i32_128 : BitVec 32 := 4#32
  let v279 : BitVec 32 := Scalar.muli arg1 c4_i32_128
  let c1_i32_129 : BitVec 32 := 1#32
  let v280 : BitVec 32 := Scalar.addi v279 c1_i32_129
  let c4_i32_130 : BitVec 32 := 4#32
  let v281 : BitVec 32 := Scalar.subi v280 c4_i32_130
  let v282 : BitVec 32 := Scalar.maxsi c0_i32_131 v281
  let v283 : BitVec 32 := Scalar.minsi c24_i32_132 v282
  let c64_i32_133 : BitVec 32 := 64#32
  let v284 : BitVec 32 := Scalar.muli v283 c64_i32_133
  v284
def k0_mult5 (i : grid0.Coords) : BitVec 32 :=
  let c24_i32_202 : BitVec 32 := 24#32
  let c0_i32_201 : BitVec 32 := 0#32
  let arg1 : BitVec 32 := BitVec.ofNat 32 (i 1).val
  let c4_i32_198 : BitVec 32 := 4#32
  let v441 : BitVec 32 := Scalar.muli arg1 c4_i32_198
  let c2_i32_199 : BitVec 32 := 2#32
  let v442 : BitVec 32 := Scalar.addi v441 c2_i32_199
  let c4_i32_200 : BitVec 32 := 4#32
  let v443 : BitVec 32 := Scalar.subi v442 c4_i32_200
  let v444 : BitVec 32 := Scalar.maxsi c0_i32_201 v443
  let v445 : BitVec 32 := Scalar.minsi c24_i32_202 v444
  let c64_i32_203 : BitVec 32 := 64#32
  let v446 : BitVec 32 := Scalar.muli v445 c64_i32_203
  v446
def k0_mult6 (i : grid0.Coords) : BitVec 32 :=
  let c24_i32_272 : BitVec 32 := 24#32
  let c0_i32_271 : BitVec 32 := 0#32
  let arg1 : BitVec 32 := BitVec.ofNat 32 (i 1).val
  let c4_i32_269 : BitVec 32 := 4#32
  let v603 : BitVec 32 := Scalar.muli arg1 c4_i32_269
  let c3_i32 : BitVec 32 := 3#32
  let v604 : BitVec 32 := Scalar.addi v603 c3_i32
  let c4_i32_270 : BitVec 32 := 4#32
  let v605 : BitVec 32 := Scalar.subi v604 c4_i32_270
  let v606 : BitVec 32 := Scalar.maxsi c0_i32_271 v605
  let v607 : BitVec 32 := Scalar.minsi c24_i32_272 v606
  let c64_i32_273 : BitVec 32 := 64#32
  let v608 : BitVec 32 := Scalar.muli v607 c64_i32_273
  v608
def k0_mult7 (i : grid0.Coords) : BitVec 32 :=
  let arg1 : BitVec 32 := BitVec.ofNat 32 (i 1).val
  let c256_i32 : BitVec 32 := 256#32
  let v0 : BitVec 32 := Scalar.muli arg1 c256_i32
  let v1 : BitVec 32 := v0
  let c256_i32_347 : BitVec 32 := 256#32
  let v771 : BitVec 32 := Scalar.addi v1 c256_i32_347
  v771
def k0_off10 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let c256_i32_347 : BitVec 32 := 256#32
  let v771 : BitVec 32 := Scalar.addi v1 c256_i32_347
  let v772 : BitVec 32 := v771
  let v773 : Index := Scalar.indexCast v772
  let c128_348 : Index := 128#32
  ![v773.toNat, 128]
def k0_off11 (i : grid0.Coords) : Fin 3 → Nat :=
  let c1_349 : Index := 1#32
  let arg1 : BitVec 32 := BitVec.ofNat 32 (i 1).val
  let c256_i32 : BitVec 32 := 256#32
  let v0 : BitVec 32 := Scalar.muli arg1 c256_i32
  let v1 : BitVec 32 := v0
  let c256_i32_347 : BitVec 32 := 256#32
  let v771 : BitVec 32 := Scalar.addi v1 c256_i32_347
  let v772 : BitVec 32 := v771
  let v775 : Index := Scalar.indexCast v772
  let c0_350 : Index := 0#32
  ![1, v775.toNat, 0]
def k0_off12 (i : grid0.Coords) : Fin 3 → Nat :=
  let c0_351 : Index := 0#32
  let arg1 : BitVec 32 := BitVec.ofNat 32 (i 1).val
  let c256_i32 : BitVec 32 := 256#32
  let v0 : BitVec 32 := Scalar.muli arg1 c256_i32
  let v1 : BitVec 32 := v0
  let v778 : Index := Scalar.indexCast v1
  let c128_352 : Index := 128#32
  ![0, v778.toNat, 128]
def k0_mult8 (i : grid0.Coords) : BitVec 32 :=
  let arg1 : BitVec 32 := BitVec.ofNat 32 (i 1).val
  let c256_i32 : BitVec 32 := 256#32
  let v0 : BitVec 32 := Scalar.muli arg1 c256_i32
  let v1 : BitVec 32 := v0
  let c256_i32_372 : BitVec 32 := 256#32
  let v820 : BitVec 32 := Scalar.addi v1 c256_i32_372
  v820
def k0_mult9 (i : grid0.Coords) : BitVec 32 :=
  let arg1 : BitVec 32 := BitVec.ofNat 32 (i 1).val
  let c256_i32 : BitVec 32 := 256#32
  let v0 : BitVec 32 := Scalar.muli arg1 c256_i32
  let v1 : BitVec 32 := v0
  let c256_i32_391 : BitVec 32 := 256#32
  let v869 : BitVec 32 := Scalar.addi v1 c256_i32_391
  v869
def k0_off13 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let c256_i32_391 : BitVec 32 := 256#32
  let v869 : BitVec 32 := Scalar.addi v1 c256_i32_391
  let v870 : BitVec 32 := v869
  let v871 : Index := Scalar.indexCast v870
  let c256_392 : Index := 256#32
  ![v871.toNat, 256]
def k0_off14 (i : grid0.Coords) : Fin 3 → Nat :=
  let c2_393 : Index := 2#32
  let arg1 : BitVec 32 := BitVec.ofNat 32 (i 1).val
  let c256_i32 : BitVec 32 := 256#32
  let v0 : BitVec 32 := Scalar.muli arg1 c256_i32
  let v1 : BitVec 32 := v0
  let c256_i32_391 : BitVec 32 := 256#32
  let v869 : BitVec 32 := Scalar.addi v1 c256_i32_391
  let v870 : BitVec 32 := v869
  let v873 : Index := Scalar.indexCast v870
  let c0_394 : Index := 0#32
  ![2, v873.toNat, 0]
def k0_off15 (i : grid0.Coords) : Fin 3 → Nat :=
  let c0_395 : Index := 0#32
  let arg1 : BitVec 32 := BitVec.ofNat 32 (i 1).val
  let c256_i32 : BitVec 32 := 256#32
  let v0 : BitVec 32 := Scalar.muli arg1 c256_i32
  let v1 : BitVec 32 := v0
  let v876 : Index := Scalar.indexCast v1
  let c256_396 : Index := 256#32
  ![0, v876.toNat, 256]
def k0_mult10 (i : grid0.Coords) : BitVec 32 :=
  let arg1 : BitVec 32 := BitVec.ofNat 32 (i 1).val
  let c256_i32 : BitVec 32 := 256#32
  let v0 : BitVec 32 := Scalar.muli arg1 c256_i32
  let v1 : BitVec 32 := v0
  let c256_i32_416 : BitVec 32 := 256#32
  let v918 : BitVec 32 := Scalar.addi v1 c256_i32_416
  v918
def k0_mult11 (i : grid0.Coords) : BitVec 32 :=
  let arg1 : BitVec 32 := BitVec.ofNat 32 (i 1).val
  let c256_i32 : BitVec 32 := 256#32
  let v0 : BitVec 32 := Scalar.muli arg1 c256_i32
  let v1 : BitVec 32 := v0
  let c256_i32_435 : BitVec 32 := 256#32
  let v967 : BitVec 32 := Scalar.addi v1 c256_i32_435
  v967
def k0_off16 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let c256_i32_435 : BitVec 32 := 256#32
  let v967 : BitVec 32 := Scalar.addi v1 c256_i32_435
  let v968 : BitVec 32 := v967
  let v969 : Index := Scalar.indexCast v968
  let c384_436 : Index := 384#32
  ![v969.toNat, 384]
def k0_off17 (i : grid0.Coords) : Fin 3 → Nat :=
  let c3_437 : Index := 3#32
  let arg1 : BitVec 32 := BitVec.ofNat 32 (i 1).val
  let c256_i32 : BitVec 32 := 256#32
  let v0 : BitVec 32 := Scalar.muli arg1 c256_i32
  let v1 : BitVec 32 := v0
  let c256_i32_435 : BitVec 32 := 256#32
  let v967 : BitVec 32 := Scalar.addi v1 c256_i32_435
  let v968 : BitVec 32 := v967
  let v971 : Index := Scalar.indexCast v968
  let c0_438 : Index := 0#32
  ![3, v971.toNat, 0]
def k0_off18 (i : grid0.Coords) : Fin 3 → Nat :=
  let c0_439 : Index := 0#32
  let arg1 : BitVec 32 := BitVec.ofNat 32 (i 1).val
  let c256_i32 : BitVec 32 := 256#32
  let v0 : BitVec 32 := Scalar.muli arg1 c256_i32
  let v1 : BitVec 32 := v0
  let v974 : Index := Scalar.indexCast v1
  let c384_440 : Index := 384#32
  ![0, v974.toNat, 384]
def k0_mult12 (i : grid0.Coords) : BitVec 32 :=
  let arg1 : BitVec 32 := BitVec.ofNat 32 (i 1).val
  let c256_i32 : BitVec 32 := 256#32
  let v0 : BitVec 32 := Scalar.muli arg1 c256_i32
  let v1 : BitVec 32 := v0
  let c256_i32_460 : BitVec 32 := 256#32
  let v1016 : BitVec 32 := Scalar.addi v1 c256_i32_460
  v1016
def k0_mult13 (i : grid0.Coords) : BitVec 32 :=
  let arg1 : BitVec 32 := BitVec.ofNat 32 (i 1).val
  let c256_i32 : BitVec 32 := 256#32
  let v0 : BitVec 32 := Scalar.muli arg1 c256_i32
  let v1 : BitVec 32 := v0
  let c256_i32_476 : BitVec 32 := 256#32
  let v1063 : BitVec 32 := Scalar.addi v1 c256_i32_476
  v1063
def k0_mult14 (i : grid0.Coords) : BitVec 32 :=
  let c24_i32 : BitVec 32 := 24#32
  let c0_i32_38 : BitVec 32 := 0#32
  let arg1 : BitVec 32 := BitVec.ofNat 32 (i 1).val
  let c4_i32 : BitVec 32 := 4#32
  let v63 : BitVec 32 := Scalar.muli arg1 c4_i32
  let c0_i32_36 : BitVec 32 := 0#32
  let v64 : BitVec 32 := Scalar.addi v63 c0_i32_36
  let c4_i32_37 : BitVec 32 := 4#32
  let v65 : BitVec 32 := Scalar.subi v64 c4_i32_37
  let v66 : BitVec 32 := Scalar.maxsi c0_i32_38 v65
  let v67 : BitVec 32 := Scalar.minsi c24_i32 v66
  let c64_i32_39 : BitVec 32 := 64#32
  let v68 : BitVec 32 := Scalar.muli v67 c64_i32_39
  v68
def k0_off19 (i : grid0.Coords) (c0_i32_36 : BitVec 32) : Fin 3 → Nat :=
  let c0_43 : Index := 0#32
  let c24_i32 : BitVec 32 := 24#32
  let c0_i32_38 : BitVec 32 := 0#32
  let arg1 : BitVec 32 := BitVec.ofNat 32 (i 1).val
  let c4_i32 : BitVec 32 := 4#32
  let v63 : BitVec 32 := Scalar.muli arg1 c4_i32
  let v64 : BitVec 32 := Scalar.addi v63 c0_i32_36
  let c4_i32_37 : BitVec 32 := 4#32
  let v65 : BitVec 32 := Scalar.subi v64 c4_i32_37
  let v66 : BitVec 32 := Scalar.maxsi c0_i32_38 v65
  let v67 : BitVec 32 := Scalar.minsi c24_i32 v66
  let c64_i32_39 : BitVec 32 := 64#32
  let v68 : BitVec 32 := Scalar.muli v67 c64_i32_39
  let v69 : BitVec 32 := v68
  let v72 : Index := Scalar.indexCast v69
  let c0_44 : Index := 0#32
  ![0, v72.toNat, 0]
def k0_off20 (i : grid0.Coords) (c0_i32_36 : BitVec 32) : Fin 3 → Nat :=
  let c0_49 : Index := 0#32
  let c24_i32 : BitVec 32 := 24#32
  let c0_i32_38 : BitVec 32 := 0#32
  let arg1 : BitVec 32 := BitVec.ofNat 32 (i 1).val
  let c4_i32 : BitVec 32 := 4#32
  let v63 : BitVec 32 := Scalar.muli arg1 c4_i32
  let v64 : BitVec 32 := Scalar.addi v63 c0_i32_36
  let c4_i32_37 : BitVec 32 := 4#32
  let v65 : BitVec 32 := Scalar.subi v64 c4_i32_37
  let v66 : BitVec 32 := Scalar.maxsi c0_i32_38 v65
  let v67 : BitVec 32 := Scalar.minsi c24_i32 v66
  let c64_i32_39 : BitVec 32 := 64#32
  let v68 : BitVec 32 := Scalar.muli v67 c64_i32_39
  let v69 : BitVec 32 := v68
  let v86 : Index := Scalar.indexCast v69
  let c128_50 : Index := 128#32
  ![0, v86.toNat, 128]
def k0_off21 (i : grid0.Coords) (c0_i32_36 : BitVec 32) : Fin 3 → Nat :=
  let c0_55 : Index := 0#32
  let c24_i32 : BitVec 32 := 24#32
  let c0_i32_38 : BitVec 32 := 0#32
  let arg1 : BitVec 32 := BitVec.ofNat 32 (i 1).val
  let c4_i32 : BitVec 32 := 4#32
  let v63 : BitVec 32 := Scalar.muli arg1 c4_i32
  let v64 : BitVec 32 := Scalar.addi v63 c0_i32_36
  let c4_i32_37 : BitVec 32 := 4#32
  let v65 : BitVec 32 := Scalar.subi v64 c4_i32_37
  let v66 : BitVec 32 := Scalar.maxsi c0_i32_38 v65
  let v67 : BitVec 32 := Scalar.minsi c24_i32 v66
  let c64_i32_39 : BitVec 32 := 64#32
  let v68 : BitVec 32 := Scalar.muli v67 c64_i32_39
  let v69 : BitVec 32 := v68
  let v100 : Index := Scalar.indexCast v69
  let c256_56 : Index := 256#32
  ![0, v100.toNat, 256]
def k0_off22 (i : grid0.Coords) (c0_i32_36 : BitVec 32) : Fin 3 → Nat :=
  let c0_61 : Index := 0#32
  let c24_i32 : BitVec 32 := 24#32
  let c0_i32_38 : BitVec 32 := 0#32
  let arg1 : BitVec 32 := BitVec.ofNat 32 (i 1).val
  let c4_i32 : BitVec 32 := 4#32
  let v63 : BitVec 32 := Scalar.muli arg1 c4_i32
  let v64 : BitVec 32 := Scalar.addi v63 c0_i32_36
  let c4_i32_37 : BitVec 32 := 4#32
  let v65 : BitVec 32 := Scalar.subi v64 c4_i32_37
  let v66 : BitVec 32 := Scalar.maxsi c0_i32_38 v65
  let v67 : BitVec 32 := Scalar.minsi c24_i32 v66
  let c64_i32_39 : BitVec 32 := 64#32
  let v68 : BitVec 32 := Scalar.muli v67 c64_i32_39
  let v69 : BitVec 32 := v68
  let v114 : Index := Scalar.indexCast v69
  let c384_62 : Index := 384#32
  ![0, v114.toNat, 384]
def k0_off23 (i : grid0.Coords) (c0_i32_36 : BitVec 32) (c0_i32_65 : BitVec 32) : Fin 3 → Nat :=
  let c24_i32 : BitVec 32 := 24#32
  let c0_i32_38 : BitVec 32 := 0#32
  let arg1 : BitVec 32 := BitVec.ofNat 32 (i 1).val
  let c4_i32 : BitVec 32 := 4#32
  let v63 : BitVec 32 := Scalar.muli arg1 c4_i32
  let v64 : BitVec 32 := Scalar.addi v63 c0_i32_36
  let c4_i32_37 : BitVec 32 := 4#32
  let v65 : BitVec 32 := Scalar.subi v64 c4_i32_37
  let v66 : BitVec 32 := Scalar.maxsi c0_i32_38 v65
  let v67 : BitVec 32 := Scalar.minsi c24_i32 v66
  let v126 : BitVec 32 := Scalar.subi v67 v64
  let c8_i32 : BitVec 32 := 8#32
  let v127 : BitVec 32 := Scalar.addi v126 c8_i32
  let c1_i32 : BitVec 32 := 1#32
  let v128 : BitVec 32 := Scalar.subi v127 c1_i32
  let v129 : BitVec 32 := Scalar.addi v128 c0_i32_65
  let v130 : Index := Scalar.indexCast v129
  let c0_66 : Index := 0#32
  let c0_67 : Index := 0#32
  ![v130.toNat, 0, 0]
def k0_mult15 (i : grid0.Coords) : BitVec 32 :=
  let c24_i32_103 : BitVec 32 := 24#32
  let c0_i32_102 : BitVec 32 := 0#32
  let arg1 : BitVec 32 := BitVec.ofNat 32 (i 1).val
  let c4_i32_99 : BitVec 32 := 4#32
  let v229 : BitVec 32 := Scalar.muli arg1 c4_i32_99
  let c1_i32_100 : BitVec 32 := 1#32
  let v230 : BitVec 32 := Scalar.addi v229 c1_i32_100
  let c4_i32_101 : BitVec 32 := 4#32
  let v231 : BitVec 32 := Scalar.subi v230 c4_i32_101
  let v232 : BitVec 32 := Scalar.maxsi c0_i32_102 v231
  let v233 : BitVec 32 := Scalar.minsi c24_i32_103 v232
  let c64_i32_104 : BitVec 32 := 64#32
  let v234 : BitVec 32 := Scalar.muli v233 c64_i32_104
  v234
def k0_mult16 (i : grid0.Coords) : BitVec 32 :=
  let c24_i32_174 : BitVec 32 := 24#32
  let c0_i32_173 : BitVec 32 := 0#32
  let arg1 : BitVec 32 := BitVec.ofNat 32 (i 1).val
  let c4_i32_170 : BitVec 32 := 4#32
  let v395 : BitVec 32 := Scalar.muli arg1 c4_i32_170
  let c2_i32_171 : BitVec 32 := 2#32
  let v396 : BitVec 32 := Scalar.addi v395 c2_i32_171
  let c4_i32_172 : BitVec 32 := 4#32
  let v397 : BitVec 32 := Scalar.subi v396 c4_i32_172
  let v398 : BitVec 32 := Scalar.maxsi c0_i32_173 v397
  let v399 : BitVec 32 := Scalar.minsi c24_i32_174 v398
  let c64_i32_175 : BitVec 32 := 64#32
  let v400 : BitVec 32 := Scalar.muli v399 c64_i32_175
  v400
def k0_mult17 (i : grid0.Coords) : BitVec 32 :=
  let c24_i32_245 : BitVec 32 := 24#32
  let c0_i32_244 : BitVec 32 := 0#32
  let arg1 : BitVec 32 := BitVec.ofNat 32 (i 1).val
  let c4_i32_242 : BitVec 32 := 4#32
  let v561 : BitVec 32 := Scalar.muli arg1 c4_i32_242
  let c3_i32 : BitVec 32 := 3#32
  let v562 : BitVec 32 := Scalar.addi v561 c3_i32
  let c4_i32_243 : BitVec 32 := 4#32
  let v563 : BitVec 32 := Scalar.subi v562 c4_i32_243
  let v564 : BitVec 32 := Scalar.maxsi c0_i32_244 v563
  let v565 : BitVec 32 := Scalar.minsi c24_i32_245 v564
  let c64_i32_246 : BitVec 32 := 64#32
  let v566 : BitVec 32 := Scalar.muli v565 c64_i32_246
  v566
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x6x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S14x512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x4096x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x256x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4x256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S4x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference3Ideal.lean ====
abbrev S1 : Shape := ⟨1, ![1]⟩
abbrev S32x2048x1024 : Shape := ⟨3, ![32, 2048, 1024]⟩
abbrev S32x6144 : Shape := ⟨2, ![32, 6144]⟩
abbrev S32x2048x3072 : Shape := ⟨3, ![32, 2048, 3072]⟩
abbrev S32x2048x2048 : Shape := ⟨3, ![32, 2048, 2048]⟩
abbrev S8x15x31 : Shape := ⟨3, ![8, 15, 31]⟩
abbrev S64 : Shape := ⟨1, ![64]⟩
abbrev S128 : Shape := ⟨1, ![128]⟩
abbrev S512x1024 : Shape := ⟨2, ![512, 1024]⟩
abbrev S1024x1024 : Shape := ⟨2, ![1024, 1024]⟩
abbrev S32x1x6144 : Shape := ⟨3, ![32, 1, 6144]⟩
abbrev S32x1x1024 : Shape := ⟨3, ![32, 1, 1024]⟩
abbrev S32x2048x512 : Shape := ⟨3, ![32, 2048, 512]⟩
abbrev S32x2048x8x64 : Shape := ⟨4, ![32, 2048, 8, 64]⟩
abbrev S_ : Shape := ⟨0, ![]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x1x8x1 : Shape := ⟨4, ![32, 1, 8, 1]⟩
abbrev S1x64x1x16 : Shape := ⟨4, ![1, 64, 1, 16]⟩
abbrev S32x64x8x16 : Shape := ⟨4, ![32, 64, 8, 16]⟩
abbrev S2048x128 : Shape := ⟨2, ![2048, 128]⟩
abbrev S2048x128x1 : Shape := ⟨3, ![2048, 128, 1]⟩
abbrev S32x2048x128x8x64 : Shape := ⟨5, ![32, 2048, 128, 8, 64]⟩
abbrev S32x8x2048x128 : Shape := ⟨4, ![32, 8, 2048, 128]⟩
abbrev S8x465 : Shape := ⟨2, ![8, 465]⟩
abbrev S8x2048x128 : Shape := ⟨3, ![8, 2048, 128]⟩
abbrev S1x8x2048x128 : Shape := ⟨4, ![1, 8, 2048, 128]⟩
abbrev S32x8x2048 : Shape := ⟨3, ![32, 8, 2048]⟩
abbrev S32x8x2048x1 : Shape := ⟨4, ![32, 8, 2048, 1]⟩
abbrev S32x2048x4x2x64 : Shape := ⟨5, ![32, 2048, 4, 2, 64]⟩
abbrev S32x2048x4x128 : Shape := ⟨4, ![32, 2048, 4, 128]⟩
abbrev S4 : Shape := ⟨1, ![4]⟩
abbrev S2048 : Shape := ⟨1, ![2048]⟩
abbrev S32x4x2x2048x2048 : Shape := ⟨5, ![32, 4, 2, 2048, 2048]⟩
abbrev S4x1x1 : Shape := ⟨3, ![4, 1, 1]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S4x2048x2048 : Shape := ⟨3, ![4, 2048, 2048]⟩
abbrev S1x4x1x2048x2048 : Shape := ⟨5, ![1, 4, 1, 2048, 2048]⟩
abbrev S32x4x2x2048 : Shape := ⟨4, ![32, 4, 2, 2048]⟩
abbrev S32x4x2x2048x1 : Shape := ⟨5, ![32, 4, 2, 2048, 1]⟩
abbrev S32x4x1x2048x2048 : Shape := ⟨5, ![32, 4, 1, 2048, 2048]⟩
abbrev S32x4x2048x2048 : Shape := ⟨4, ![32, 4, 2048, 2048]⟩
abbrev S32x4x128x2048 : Shape := ⟨4, ![32, 4, 128, 2048]⟩
abbrev S32x2048x4 : Shape := ⟨3, ![32, 2048, 4]⟩
abbrev S32x2048x4x1 : Shape := ⟨4, ![32, 2048, 4, 1]⟩
abbrev S1x1x1x128 : Shape := ⟨4, ![1, 1, 1, 128]⟩

abbrev nBuf : Space → Nat
  | .hbm => 248
  | .vmem => 0
  | .smem => 0
  | _ => 0

abbrev hbmTy0_0 (i : Nat) : BufTy := match i % 128 with
  | 0 => ⟨S1, .i32⟩
  | 1 => ⟨S32x2048x1024, .f32⟩
  | 2 => ⟨S32x6144, .f32⟩
  | 3 => ⟨S32x2048x3072, .bf16⟩
  | 4 => ⟨S32x2048x2048, .bf16⟩
  | 5 => ⟨S8x15x31, .f32⟩
  | 6 => ⟨S64, .f32⟩
  | 7 => ⟨S64, .f32⟩
  | 8 => ⟨S64, .f32⟩
  | 9 => ⟨S64, .f32⟩
  | 10 => ⟨S128, .f32⟩
  | 11 => ⟨S512x1024, .f32⟩
  | 12 => ⟨S512x1024, .f32⟩
  | 13 => ⟨S1024x1024, .f32⟩
  | 14 => ⟨S32x1x6144, .f32⟩
  | 15 => ⟨S32x1x1024, .f32⟩
  | 16 => ⟨S32x1x1024, .f32⟩
  | 17 => ⟨S32x1x1024, .f32⟩
  | 18 => ⟨S32x1x1024, .f32⟩
  | 19 => ⟨S32x1x1024, .f32⟩
  | 20 => ⟨S32x1x1024, .f32⟩
  | 21 => ⟨S32x2048x3072, .f32⟩
  | 22 => ⟨S32x2048x512, .f32⟩
  | 23 => ⟨S32x2048x512, .f32⟩
  | 24 => ⟨S32x2048x512, .f32⟩
  | 25 => ⟨S32x2048x512, .f32⟩
  | 26 => ⟨S32x2048x512, .f32⟩
  | 27 => ⟨S32x2048x512, .f32⟩
  | 28 => ⟨S32x2048x8x64, .f32⟩
  | 29 => ⟨S32x2048x8x64, .f32⟩
  | 30 => ⟨S32x2048x8x64, .f32⟩
  | 31 => ⟨S64, .i32⟩
  | 32 => ⟨S_, .i32⟩
  | 33 => ⟨S64, .i32⟩
  | 34 => ⟨S64, .i32⟩
  | 35 => ⟨S_, .i32⟩
  | 36 => ⟨S_, .i32⟩
  | 37 => ⟨S_, .i32⟩
  | 38 => ⟨S64, .i32⟩
  | 39 => ⟨S64, .i32⟩
  | 40 => ⟨S_, .i32⟩
  | 41 => ⟨S64, .i32⟩
  | 42 => ⟨S64, .i32⟩
  | 43 => ⟨S64x1, .i32⟩
  | 44 => ⟨S16, .i32⟩
  | 45 => ⟨S1x16, .i32⟩
  | 46 => ⟨S64x16, .i32⟩
  | 47 => ⟨S64x16, .i32⟩
  | 48 => ⟨S64x16, .i32⟩
  | 49 => ⟨S64x1, .i32⟩
  | 50 => ⟨S64x16, .i32⟩
  | 51 => ⟨S64x16, .i32⟩
  | 52 => ⟨S_, .i32⟩
  | 53 => ⟨S64x16, .i32⟩
  | 54 => ⟨S64x16, .i32⟩
  | 55 => ⟨S32, .i32⟩
  | 56 => ⟨S_, .i32⟩
  | 57 => ⟨S32, .i32⟩
  | 58 => ⟨S32, .i32⟩
  | 59 => ⟨S_, .i32⟩
  | 60 => ⟨S_, .i32⟩
  | 61 => ⟨S_, .i32⟩
  | 62 => ⟨S32, .i32⟩
  | 63 => ⟨S32, .i32⟩
  | 64 => ⟨S_, .i32⟩
  | 65 => ⟨S32, .i32⟩
  | 66 => ⟨S32, .i32⟩
  | 67 => ⟨S32x1, .i32⟩
  | 68 => ⟨S8, .i32⟩
  | 69 => ⟨S1x8, .i32⟩
  | 70 => ⟨S32x8, .i32⟩
  | 71 => ⟨S32x8, .i32⟩
  | 72 => ⟨S32x8, .i32⟩
  | 73 => ⟨S32x1, .i32⟩
  | 74 => ⟨S32x8, .i32⟩
  | 75 => ⟨S32x8, .i32⟩
  | 76 => ⟨S_, .i32⟩
  | 77 => ⟨S32x8, .i32⟩
  | 78 => ⟨S32x8, .i32⟩
  | 79 => ⟨S32x1x8x1, .i32⟩
  | 80 => ⟨S_, .i32⟩
  | 81 => ⟨S32x1x8x1, .i32⟩
  | 82 => ⟨S32x1x8x1, .i32⟩
  | 83 => ⟨S1x64x1x16, .i32⟩
  | 84 => ⟨S32x64x8x16, .i32⟩
  | 85 => ⟨S32x64x8x16, .i32⟩
  | 86 => ⟨S32x64x8x16, .i32⟩
  | 87 => ⟨S2048x128, .i32⟩
  | 88 => ⟨S32x1x8x1, .i32⟩
  | 89 => ⟨S_, .i32⟩
  | 90 => ⟨S32x1x8x1, .i32⟩
  | 91 => ⟨S32x1x8x1, .i32⟩
  | 92 => ⟨S1x64x1x16, .i32⟩
  | 93 => ⟨S32x64x8x16, .i32⟩
  | 94 => ⟨S32x64x8x16, .i32⟩
  | 95 => ⟨S32x64x8x16, .i32⟩
  | 96 => ⟨S2048x128, .i32⟩
  | 97 => ⟨S_, .i32⟩
  | 98 => ⟨S2048x128, .i32⟩
  | 99 => ⟨S2048x128, .i1⟩
  | 100 => ⟨S_, .i32⟩
  | 101 => ⟨S2048x128, .i32⟩
  | 102 => ⟨S2048x128, .i32⟩
  | 103 => ⟨S2048x128, .i32⟩
  | 104 => ⟨S2048x128x1, .i32⟩
  | 105 => ⟨S32x2048x128x8x64, .f32⟩
  | 106 => ⟨S_, .i32⟩
  | 107 => ⟨S2048x128, .i32⟩
  | 108 => ⟨S2048x128, .i1⟩
  | 109 => ⟨S_, .i32⟩
  | 110 => ⟨S2048x128, .i32⟩
  | 111 => ⟨S2048x128, .i32⟩
  | 112 => ⟨S2048x128, .i32⟩
  | 113 => ⟨S2048x128x1, .i32⟩
  | 114 => ⟨S32x2048x128x8x64, .f32⟩
  | 115 => ⟨S32x8x2048x128, .f32⟩
  | 116 => ⟨S_, .f32⟩
  | 117 => ⟨S_, .f32⟩
  | 118 => ⟨S32x8x2048x128, .f32⟩
  | 119 => ⟨S32x8x2048x128, .f32⟩
  | 120 => ⟨S8x465, .f32⟩
  | 121 => ⟨S_, .i32⟩
  | 122 => ⟨S2048x128, .i32⟩
  | 123 => ⟨S2048x128, .i1⟩
  | 124 => ⟨S_, .i32⟩
  | 125 => ⟨S2048x128, .i32⟩
  | 126 => ⟨S2048x128, .i32⟩
  | 127 => ⟨S2048x128, .i32⟩
  | _ => ⟨S1, .i32⟩

abbrev hbmTy0_1 (i : Nat) : BufTy := match i % 128 with
  | 0 => ⟨S2048x128x1, .i32⟩
  | 1 => ⟨S8x2048x128, .f32⟩
  | 2 => ⟨S1x8x2048x128, .f32⟩
  | 3 => ⟨S32x8x2048x128, .f32⟩
  | 4 => ⟨S32x8x2048x128, .f32⟩
  | 5 => ⟨S_, .f32⟩
  | 6 => ⟨S32x8x2048, .f32⟩
  | 7 => ⟨S_, .f32⟩
  | 8 => ⟨S32x8x2048, .f32⟩
  | 9 => ⟨S32x8x2048, .f32⟩
  | 10 => ⟨S32x8x2048x1, .f32⟩
  | 11 => ⟨S32x8x2048x128, .f32⟩
  | 12 => ⟨S32x8x2048x128, .f32⟩
  | 13 => ⟨S32x8x2048x128, .f32⟩
  | 14 => ⟨S_, .f32⟩
  | 15 => ⟨S32x8x2048, .f32⟩
  | 16 => ⟨S32x8x2048x1, .f32⟩
  | 17 => ⟨S32x8x2048x128, .f32⟩
  | 18 => ⟨S32x8x2048x128, .f32⟩
  | 19 => ⟨S32x2048x8x64, .f32⟩
  | 20 => ⟨S32x2048x512, .f32⟩
  | 21 => ⟨S64, .f32⟩
  | 22 => ⟨S_, .f32⟩
  | 23 => ⟨S_, .f32⟩
  | 24 => ⟨S_, .f32⟩
  | 25 => ⟨S64, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S32x2048x4x2x64, .f32⟩
  | 33 => ⟨S32x2048x4x2x64, .f32⟩
  | 34 => ⟨S32x2048x4x128, .f32⟩
  | 35 => ⟨S_, .f32⟩
  | 36 => ⟨S_, .f32⟩
  | 37 => ⟨S_, .f32⟩
  | 38 => ⟨S_, .f32⟩
  | 39 => ⟨S1, .f32⟩
  | 40 => ⟨S1, .f32⟩
  | 41 => ⟨S1, .f32⟩
  | 42 => ⟨S1, .f32⟩
  | 43 => ⟨S4, .f32⟩
  | 44 => ⟨S2048, .f32⟩
  | 45 => ⟨S32x4x2x2048x2048, .f32⟩
  | 46 => ⟨S_, .f32⟩
  | 47 => ⟨S_, .f32⟩
  | 48 => ⟨S32x4x2x2048x2048, .f32⟩
  | 49 => ⟨S32x4x2x2048x2048, .f32⟩
  | 50 => ⟨S4x1x1, .f32⟩
  | 51 => ⟨S4x1x1, .f32⟩
  | 52 => ⟨S2048x1, .f32⟩
  | 53 => ⟨S1x2048, .f32⟩
  | 54 => ⟨S2048x2048, .f32⟩
  | 55 => ⟨S2048x2048, .f32⟩
  | 56 => ⟨S2048x2048, .f32⟩
  | 57 => ⟨S2048x2048, .f32⟩
  | 58 => ⟨S1x2048x2048, .f32⟩
  | 59 => ⟨S4x2048x2048, .f32⟩
  | 60 => ⟨S4x2048x2048, .f32⟩
  | 61 => ⟨S4x2048x2048, .f32⟩
  | 62 => ⟨S1x4x1x2048x2048, .f32⟩
  | 63 => ⟨S32x4x2x2048x2048, .f32⟩
  | 64 => ⟨S32x4x2x2048x2048, .f32⟩
  | 65 => ⟨S_, .f32⟩
  | 66 => ⟨S32x4x2x2048, .f32⟩
  | 67 => ⟨S_, .f32⟩
  | 68 => ⟨S32x4x2x2048, .f32⟩
  | 69 => ⟨S32x4x2x2048, .f32⟩
  | 70 => ⟨S32x4x2x2048x1, .f32⟩
  | 71 => ⟨S32x4x2x2048x2048, .f32⟩
  | 72 => ⟨S32x4x2x2048x2048, .f32⟩
  | 73 => ⟨S32x4x2x2048x2048, .f32⟩
  | 74 => ⟨S_, .f32⟩
  | 75 => ⟨S32x4x2x2048, .f32⟩
  | 76 => ⟨S32x4x2x2048x1, .f32⟩
  | 77 => ⟨S32x4x2x2048x2048, .f32⟩
  | 78 => ⟨S32x4x2x2048x2048, .f32⟩
  | 79 => ⟨S32x4x1x2048x2048, .f32⟩
  | 80 => ⟨S32x4x2048x2048, .f32⟩
  | 81 => ⟨S32x4x1x2048x2048, .f32⟩
  | 82 => ⟨S32x4x2048x2048, .f32⟩
  | 83 => ⟨S32x4x2048x2048, .f32⟩
  | 84 => ⟨S32x4x2048x2048, .f32⟩
  | 85 => ⟨S32x4x2048x2048, .f32⟩
  | 86 => ⟨S32x4x128x2048, .f32⟩
  | 87 => ⟨S32x2048x4x128, .f32⟩
  | 88 => ⟨S32x2048x4x128, .f32⟩
  | 89 => ⟨S_, .f32⟩
  | 90 => ⟨S32x2048x4, .f32⟩
  | 91 => ⟨S32x2048x4x1, .f32⟩
  | 92 => ⟨S_, .f32⟩
  | 93 => ⟨S32x2048x4x1, .f32⟩
  | 94 => ⟨S32x2048x4x1, .f32⟩
  | 95 => ⟨S_, .f32⟩
  | 96 => ⟨S32x2048x4x1, .f32⟩
  | 97 => ⟨S32x2048x4x1, .f32⟩
  | 98 => ⟨S32x2048x4x1, .f32⟩
  | 99 => ⟨S32x2048x4x128, .f32⟩
  | 100 => ⟨S32x2048x4x128, .f32⟩
  | 101 => ⟨S1x1x1x128, .f32⟩
  | 102 => ⟨S32x2048x4x128, .f32⟩
  | 103 => ⟨S32x2048x4x128, .f32⟩
  | 104 => ⟨S_, .f32⟩
  | 105 => ⟨S32x2048x4x128, .f32⟩
  | 106 => ⟨S32x2048x4x128, .f32⟩
  | 107 => ⟨S32x2048x512, .f32⟩
  | 108 => ⟨S32x2048x1024, .f32⟩
  | 109 => ⟨S32x2048x1024, .f32⟩
  | 110 => ⟨S32x2048x2048, .f32⟩
  | 111 => ⟨S32x2048x1024, .f32⟩
  | 112 => ⟨S32x2048x1024, .f32⟩
  | 113 => ⟨S32x2048x1024, .f32⟩
  | 114 => ⟨S32x2048x1024, .f32⟩
  | 115 => ⟨S32x2048x1024, .f32⟩
  | 116 => ⟨S32x2048x1024, .f32⟩
  | 117 => ⟨S32x2048x1024, .f32⟩
  | 118 => ⟨S32x2048x1024, .f32⟩
  | 119 => ⟨S32x2048x1024, .f32⟩
  | _ => ⟨S1, .i32⟩

abbrev hbmTy (i : Nat) : BufTy := match i / 128 with
  | 0 => hbmTy0_0 i
  | 1 => hbmTy0_1 i
  | _ => ⟨S1, .i32⟩

abbrev bufTy : (tb : Table) → Fin (tcTables nBuf tb) → BufTy
  | .hbm, ⟨i, _⟩ => hbmTy i
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_0 : Ref sig .tc := ⟨.hbm, 35, rfl⟩
abbrev main_c_1 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_2 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_3 : Ref sig .tc := ⟨.hbm, 56, rfl⟩
abbrev main_v33 : Ref sig .tc := ⟨.hbm, 57, rfl⟩
abbrev main_v34 : Ref sig .tc := ⟨.hbm, 58, rfl⟩
abbrev main_c_4 : Ref sig .tc := ⟨.hbm, 59, rfl⟩
abbrev main_c_5 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c_6 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_7 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_8 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c_9 : Ref sig .tc := ⟨.hbm, 97, rfl⟩
abbrev main_v63 : Ref sig .tc := ⟨.hbm, 98, rfl⟩
abbrev main_v64 : Ref sig .tc := ⟨.hbm, 99, rfl⟩
abbrev main_c_10 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_c_11 : Ref sig .tc := ⟨.hbm, 106, rfl⟩
abbrev main_v70 : Ref sig .tc := ⟨.hbm, 107, rfl⟩
abbrev main_v71 : Ref sig .tc := ⟨.hbm, 108, rfl⟩
abbrev main_c_12 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_c_13 : Ref sig .tc := ⟨.hbm, 121, rfl⟩
abbrev main_v82 : Ref sig .tc := ⟨.hbm, 122, rfl⟩
abbrev main_v83 : Ref sig .tc := ⟨.hbm, 123, rfl⟩
abbrev main_c_14 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_15 : Ref sig .tc := ⟨.hbm, 133, rfl⟩
abbrev main_v92 : Ref sig .tc := ⟨.hbm, 134, rfl⟩
abbrev main_cst_16 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_17 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_18 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_19 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_cst_20 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_21 : Ref sig .tc := ⟨.hbm, 163, rfl⟩
abbrev main_cst_22 : Ref sig .tc := ⟨.hbm, 164, rfl⟩
abbrev main_cst_23 : Ref sig .tc := ⟨.hbm, 165, rfl⟩
abbrev main_cst_24 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_cst_25 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_cst_26 : Ref sig .tc := ⟨.hbm, 193, rfl⟩
abbrev main_v141 : Ref sig .tc := ⟨.hbm, 194, rfl⟩
abbrev main_cst_27 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_cst_28 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_cst_29 : Ref sig .tc := ⟨.hbm, 217, rfl⟩
abbrev main_v162 : Ref sig .tc := ⟨.hbm, 218, rfl⟩
abbrev main_v163 : Ref sig .tc := ⟨.hbm, 219, rfl⟩
abbrev main_cst_30 : Ref sig .tc := ⟨.hbm, 220, rfl⟩
abbrev main_v164 : Ref sig .tc := ⟨.hbm, 221, rfl⟩
abbrev main_v165 : Ref sig .tc := ⟨.hbm, 222, rfl⟩
abbrev main_cst_31 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_cst_32 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩

abbrev nD : Nat := 1
abbrev τ : Topo := Topo.v7x

variable {F : FTy → Type} [FloatOps F]
-- ==== Proof.Ffn.Open.lean ====
module

public import proofs.«01_k».proof.Proof.Gen.Kernel2Ideal.Value
public import Idealize.ShloMosaic.Lib.Pipeline.ValueKit
public import Idealize.ShloMosaic.Lib.Pipeline.ReadBack

/-!
# What one grid point of the ffn kernel leaves in its output block

The body stores the up-projected chunks in the two slots of a scratch and reads three shifted row
windows of each back. Here the body's result is brought to a recursion over the chunks.
-/

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

/-- 1024 rows of a slot from row `ro`, 256 columns from column `co`. -/
def tap (P : FVec Ideal S1x1040x512 .f32) (ro co : ℕ) : FVec Ideal S1x1024x256 .f32 := fun j =>
  P (ix3 (⟨0, by decide⟩ : Fin 1) (⟨(ro + (j 1).val) % 1040, Nat.mod_lt _ (by decide)⟩ : Fin 1040)
    (⟨(co + (j 2).val) % 512, Nat.mod_lt _ (by decide)⟩ : Fin 512))

/-- 256 columns of the up weights from column `o`. -/
def colW (W : FVec Ideal S1024x5632 .bf16) (o : ℕ) : FVec Ideal S1024x256 .bf16 := fun j =>
  W (ix2 (⟨(j 0).val, (j 0).isLt⟩ : Fin 1024) (⟨(o + (j 1).val) % 5632, Nat.mod_lt _ (by decide)⟩ : Fin 5632))

/-- 256 columns of row `k` of the tap weights from column `o`. -/
def rowC (C : FVec Ideal S3x5632 .f32) (k o : ℕ) : FVec Ideal S1x256 .f32 := fun j =>
  C (ix2 (⟨k % 3, Nat.mod_lt _ (by decide)⟩ : Fin 3) (⟨(o + (j 1).val) % 5632, Nat.mod_lt _ (by decide)⟩ : Fin 5632))

/-- 256 columns of the conv bias from column `o`. -/
def rowB (B : FVec Ideal S1x5632 .f32) (o : ℕ) : FVec Ideal S1x256 .f32 := fun j =>
  B (ix2 (⟨0, by decide⟩ : Fin 1) (⟨(o + (j 1).val) % 5632, Nat.mod_lt _ (by decide)⟩ : Fin 5632))

/-- 256 rows of the down weights from row `o`. -/
def rowD (D : FVec Ideal S2816x1024 .bf16) (o : ℕ) : FVec Ideal S256x1024 .bf16 := fun j =>
  D (ix2 (⟨(o + (j 0).val) % 2816, Nat.mod_lt _ (by decide)⟩ : Fin 2816) (⟨(j 1).val, (j 1).isLt⟩ : Fin 1024))

/-- Row `k` of a modulation block. -/
def rowM (M : FVec Ideal S1x6x1024 .f32) (k : ℕ) : FVec Ideal S1x1x1024 .f32 := fun j =>
  M (ix3 (⟨0, by decide⟩ : Fin 1) (⟨k % 6, Nat.mod_lt _ (by decide)⟩ : Fin 6) (⟨(j 2).val, (j 2).isLt⟩ : Fin 1024))

theorem ld_colW (W : FVec Ideal S1024x5632 .bf16) (o : ℕ) (inb : ∀ a, (![0, o] : Fin 2 → ℕ) a + (![1024, 256] : Fin 2 → ℕ) a ≤ S1024x5632.size a) :
    View.ld (Val := Elt Ideal) (S := S1024x5632) (e' := .bf16) W (Rect.unit (s := S1024x5632) ![0, o] ![1024, 256] inb) = colW W o := by
  have h1 : o + 256 ≤ 5632 := inb 1
  funext j
  have hj : (j 1).val < 256 := (j 1).isLt
  refine View.ld_unit_apply_of (Val := Elt Ideal) (e := .bf16) W _ _ inb j _ fun a => ?_
  match a with
  | ⟨0, _⟩ => show (j 0).val = 0 + (j 0).val; omega
  | ⟨1, _⟩ => show (o + (j 1).val) % 5632 = o + (j 1).val; omega

theorem ld_rowC (C : FVec Ideal S3x5632 .f32) (k o : ℕ) (inb : ∀ a, (![k, o] : Fin 2 → ℕ) a + (![1, 256] : Fin 2 → ℕ) a ≤ S3x5632.size a) :
    View.ld (Val := Elt Ideal) (S := S3x5632) (e' := .f32) C (Rect.unit (s := S3x5632) ![k, o] ![1, 256] inb) = rowC C k o := by
  have h0 : k + 1 ≤ 3 := inb 0
  have h1 : o + 256 ≤ 5632 := inb 1
  funext j
  have hj0 : (j 0).val < 1 := (j 0).isLt
  have hj : (j 1).val < 256 := (j 1).isLt
  refine View.ld_unit_apply_of (Val := Elt Ideal) (e := .f32) C _ _ inb j _ fun a => ?_
  match a with
  | ⟨0, _⟩ => show k % 3 = k + (j 0).val; omega
  | ⟨1, _⟩ => show (o + (j 1).val) % 5632 = o + (j 1).val; omega

theorem ld_rowB (B : FVec Ideal S1x5632 .f32) (o : ℕ) (inb : ∀ a, (![0, o] : Fin 2 → ℕ) a + (![1, 256] : Fin 2 → ℕ) a ≤ S1x5632.size a) :
    View.ld (Val := Elt Ideal) (S := S1x5632) (e' := .f32) B (Rect.unit (s := S1x5632) ![0, o] ![1, 256] inb) = rowB B o := by
  have h1 : o + 256 ≤ 5632 := inb 1
  funext j
  have hj0 : (j 0).val < 1 := (j 0).isLt
  have hj : (j 1).val < 256 := (j 1).isLt
  refine View.ld_unit_apply_of (Val := Elt Ideal) (e := .f32) B _ _ inb j _ fun a => ?_
  match a with
  | ⟨0, _⟩ => show 0 = 0 + (j 0).val; omega
  | ⟨1, _⟩ => show (o + (j 1).val) % 5632 = o + (j 1).val; omega

theorem ld_rowD (D : FVec Ideal S2816x1024 .bf16) (o : ℕ) (inb : ∀ a, (![o, 0] : Fin 2 → ℕ) a + (![256, 1024] : Fin 2 → ℕ) a ≤ S2816x1024.size a) :
    View.ld (Val := Elt Ideal) (S := S2816x1024) (e' := .bf16) D (Rect.unit (s := S2816x1024) ![o, 0] ![256, 1024] inb) = rowD D o := by
  have h1 : o + 256 ≤ 2816 := inb 0
  funext j
  have hj : (j 0).val < 256 := (j 0).isLt
  refine View.ld_unit_apply_of (Val := Elt Ideal) (e := .bf16) D _ _ inb j _ fun a => ?_
  match a with
  | ⟨0, _⟩ => show (o + (j 0).val) % 2816 = o + (j 0).val; omega
  | ⟨1, _⟩ => show (j 1).val = 0 + (j 1).val; omega

theorem ld_rowM (M : FVec Ideal S1x6x1024 .f32) (k : ℕ) (inb : ∀ a, (![0, k, 0] : Fin 3 → ℕ) a + (![1, 1, 1024] : Fin 3 → ℕ) a ≤ S1x6x1024.size a) :
    View.ld (Val := Elt Ideal) (S := S1x6x1024) (e' := .f32) M (Rect.unit (s := S1x6x1024) ![0, k, 0] ![1, 1, 1024] inb) = rowM M k := by
  have h1 : k + 1 ≤ 6 := inb 1
  funext j
  have hj0 : (j 0).val < 1 := (j 0).isLt
  have hj1 : (j 1).val < 1 := (j 1).isLt
  refine View.ld_unit_apply_of (Val := Elt Ideal) (e := .f32) M _ _ inb j _ fun a => ?_
  match a with
  | ⟨0, _⟩ => show 0 = 0 + (j 0).val; omega
  | ⟨1, _⟩ => show k % 6 = k + (j 1).val; omega
  | ⟨2, _⟩ => show (j 2).val = 0 + (j 2).val; omega

/-- A window inside the rectangle stored last reads the stored payload, at the window's place in it. -/
theorem readCov_window {Val : EltTy → Type} {sig : RefSig} {κ : Kind} {sp : Space} {s : Shape} {e : EltTy} [∀ e, Nonempty (Val e)]
    (v : View sig κ sp s e) (off size : Fin s.rank → ℕ) (inb : ∀ a, off a + size a ≤ s.size a)
    (w : (Rect.unit off size inb).shape.Idx → Val e) (L : List (View.Piece Val s e)) (off' size' : Fin s.rank → ℕ)
    (inb' : ∀ a, off' a + size' a ≤ s.size a) (h : ∀ a, off a ≤ off' a ∧ off' a + size' a ≤ off a + size a) :
    v.readCov (⟨Rect.unit off size inb, w⟩ :: L) (Rect.unit off' size' inb').toLoadRect
      = View.ld w (Rect.unit (s := (Rect.unit off size inb).shape) (fun a => off' a - off a) size' (fun a => by
          have := h a
          show off' a - off a + size' a ≤ size a
          omega)) := by
  rw [View.readCov_eq_canon']
  funext j
  have e : (Rect.unit off' size' inb').toLoadRect.idx j = (Rect.unit off size inb).emb
      ((Rect.unit (s := (Rect.unit off size inb).shape) (fun a => off' a - off a) size' (fun a => by
          have := h a
          show off' a - off a + size' a ≤ size a
          omega)).toLoadRect.idx j) := by
    funext a
    apply Fin.ext
    have := h a
    show off' a + 1 * (j a).val = off a + 1 * (off' a - off a + 1 * (j a).val)
    omega
  show View.canon _ _ = _
  rw [e, View.canon_cons_emb]

/-- Such a window of a slot is `tap`. -/
theorem ld_tap (s ro co : ℕ) (P : FVec Ideal S1x1040x512 .f32)
    (inb : ∀ a, ((![s, ro, co] : Fin 3 → ℕ) a - (![s, 0, 0] : Fin 3 → ℕ) a) + (![1, 1024, 256] : Fin 3 → ℕ) a ≤ S1x1040x512.size a) :
    View.ld (Val := Elt Ideal) (S := S1x1040x512) (e' := .f32) P
      (Rect.unit (s := S1x1040x512) (fun a => (![s, ro, co] : Fin 3 → ℕ) a - (![s, 0, 0] : Fin 3 → ℕ) a) ![1, 1024, 256] inb) = tap P ro co := by
  have h1 : ro - 0 + 1024 ≤ 1040 := inb 1
  have h2 : co - 0 + 256 ≤ 512 := inb 2
  funext j
  have hj0 : (j 0).val < 1 := (j 0).isLt
  have hj1 : (j 1).val < 1024 := (j 1).isLt
  have hj2 : (j 2).val < 256 := (j 2).isLt
  refine View.ld_unit_apply_of (Val := Elt Ideal) (e := .f32) P _ _ inb j _ fun a => ?_
  match a with
  | ⟨0, _⟩ => show 0 = s - s + (j 0).val; omega
  | ⟨1, _⟩ => show (ro + (j 1).val) % 1040 = ro - 0 + (j 1).val; omega
  | ⟨2, _⟩ => show (co + (j 2).val) % 512 = co - 0 + (j 2).val; omega

/-- The up-projected chunk `f`. -/
def slabV (h : FVec Ideal S1040x1024 .bf16) (W : FVec Ideal S1024x5632 .bf16) (f : ℕ) : FVec Ideal S1x1040x512 .f32 :=
  k0_pay14 h (colW W (f * 256)) (colW W (2816 + f * 256))

/-- The three taps of a chunk's half, with the bias. -/
def convV (P : FVec Ideal S1x1040x512 .f32) (co : ℕ) (C : FVec Ideal S3x5632 .f32) (B : FVec Ideal S1x5632 .f32) (o : ℕ) :
    FVec Ideal S1024x256 .f32 :=
  k0_pay10 (k0_pay9 (tap P 7 co)) (rowC C 0 o) (tap P 8 co) (rowC C 1 o) (tap P 9 co) (rowC C 2 o) (rowB B o)

/-- The gated product of the two halves. -/
def gateV (a l : FVec Ideal S1024x256 .f32) : FVec Ideal S1024x256 .f32 :=
  mulf (mulf (mulf (broadcast S1024x256 (Scalar.ofBits .f32 0x3F000000#32)) a)
    (addf (broadcast S1024x256 (Scalar.ofBits .f32 0x3F800000#32)) (erf (mulf a (broadcast S1024x256 (Scalar.ofBits .f32 0x3F3504F3#32)))))) l

/-- One chunk's gated product. -/
def zV (h : FVec Ideal S1040x1024 .bf16) (W : FVec Ideal S1024x5632 .bf16) (C : FVec Ideal S3x5632 .f32) (B : FVec Ideal S1x5632 .f32)
    (f : ℕ) : FVec Ideal S1024x256 .f32 :=
  gateV (convV (slabV h W f) 0 C B (f * 256)) (convV (slabV h W f) 256 C B (2816 + f * 256))

/-- One chunk added into the accumulator. -/
def downV (acc : FVec Ideal S1024x1024 .f32) (z : FVec Ideal S1024x256 .f32) (d : FVec Ideal S256x1024 .bf16) : FVec Ideal S1024x1024 .f32 :=
  addf acc (matmul dot_S1024x256_S256x1024_S1024x1024_1_0_0_1_n_n none (truncf .bf16 z bitsLt_bf16_f32)
    (shapeCast S256x1024 d shapeCasts_S256x1024_S256x1024) (constant S1024x1024 .f32 0x00000000#32))

/-- The accumulator after `f` chunks. -/
def accV (h : FVec Ideal S1040x1024 .bf16) (W : FVec Ideal S1024x5632 .bf16) (C : FVec Ideal S3x5632 .f32) (B : FVec Ideal S1x5632 .f32)
    (D : FVec Ideal S2816x1024 .bf16) : ℕ → FVec Ideal S1024x1024 .f32
  | 0 => k0_pay6
  | f + 1 => downV (accV h W C B D f) (zV h W C B f) (rowD D (f * 256))

/-- The block's rows with their halo, modulated and masked. -/
def hV (t1 : BitVec 32) (x : FVec Ideal S1x1024x1024 .f32) (xp xn : FVec Ideal S1x8x1024 .f32) (M : FVec Ideal S1x6x1024 .f32)
    (g : FVec Ideal S1x1024 .f32) : FVec Ideal S1040x1024 .bf16 :=
  k0_pay5 t1 (k0_pay3 x xp xn (rowM M 3) (rowM M 4) g) (iota .tc S1040x1 32 [0] iota_S1040x1_d0_w32) k0_pay4 (Scalar.cmpi .sgt t1 0#32)

/-- The block stored. -/
def outV (x : FVec Ideal S1x1024x1024 .f32) (M : FVec Ideal S1x6x1024 .f32) (acc : FVec Ideal S1024x1024 .f32) : FVec Ideal S1x1024x1024 .f32 :=
  shapeCast S1x1024x1024 (addf (k0_pay2 x) (mulf (broadcastTo S1024x1024 (shapeCast S1x1024 (rowM M 5) shapeCasts_S1x1x1024_S1x1024)
    broadcasts_S1x1024_S1024x1024) acc)) shapeCasts_S1024x1024_S1x1024x1024

end Cert.Kernel2Ideal.Ffn
-- ==== Proof.Ffn.After.lean ====
module

public import proofs.«01_k».proof.Proof.Ffn.Open
public import Idealize.ShloMosaic.Lib.Pipeline.ValueKit
public import Idealize.ShloMosaic.Lib.Pipeline.ReadBack

/-! # One grid point's output block as the recursion over the chunks -/

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

/-- The chunks' products are printed by one text: every slab is the first's payload. -/
theorem slab_of_block (t1 : BitVec 32) (x : FVec Ideal S1040x1024 .f32) (i : IVec S1040x1 32) (b : IVec S1040x1 1) (q : BitVec 1)
    (v w : FVec Ideal S1024x256 .bf16) : k0_pay7 t1 x i b q v w = k0_pay14 (k0_pay5 t1 x i b q) v w
      ∧ k0_pay8 t1 x i b q v w = k0_pay14 (k0_pay5 t1 x i b q) v w := ⟨rfl, rfl⟩

theorem slab_of_rows (h : FVec Ideal S1040x1024 .bf16) (v w : FVec Ideal S1024x256 .bf16) :
    k0_pay19 h v w = k0_pay14 h v w ∧ k0_pay26 h v w = k0_pay14 h v w ∧ k0_pay33 h v w = k0_pay14 h v w
      ∧ k0_pay39 h v w = k0_pay14 h v w ∧ k0_pay43 h v w = k0_pay14 h v w ∧ k0_pay47 h (k0_pay46 v) w = k0_pay14 h v w
      ∧ k0_pay52 (k0_pay51 h v w) = k0_pay14 h v w ∧ k0_pay57 h v w = k0_pay14 h v w := ⟨rfl, rfl, rfl, rfl, rfl, rfl, rfl, rfl⟩

variable (m : (ℓ : Loc nD τ sig) → Buf (Elt Ideal) ℓ)

set_option maxHeartbeats 2000000 in
theorem after_eq (c : Dev nD) (t : Fin cfg0.N) : (dats m 0 c).after 9 t
    = outV (iblk m c 0 t) (iblk m c 3 t) (accV (hV (BitVec.ofNat 32 (grid0.coords t 1)) (iblk m c 0 t) (iblk m c 1 t) (iblk m c 2 t) (iblk m c 3 t)
        (iblk m c 4 t)) (iblk m c 5 t) (iblk m c 6 t) (iblk m c 7 t) (iblk m c 8 t) 11) := by
  rw [after0_9]
  unfold outsAt0
  frame_open
  simp (disch := decide) only [↓ View.readCov_skip, ↓ View.readCov_cons_toLoadRect, ↓ View.readCov_fill, ↓ readCov_window]
  frame_out
  simp only [ld_colW, ld_rowC, ld_rowB, ld_rowD, ld_rowM, ld_tap]
  simp only [slab_of_block, slab_of_rows]
  unfold hV
  generalize k0_pay5 (F := Ideal) _ _ _ _ _ = h
  generalize iblk m c 0 t = x0
  generalize iblk m c 3 t = x3
  generalize iblk m c 5 t = x5
  generalize iblk m c 6 t = x6
  generalize iblk m c 7 t = x7
  generalize iblk m c 8 t = x8
  rfl

end Cert.Kernel2Ideal.Ffn
-- ==== Proof.Ffn.Point.lean ====
module

public import proofs.«01_k».proof.Proof.Ffn.Open

/-! # The body's vectors of the ffn kernel, read at an index -/

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

theorem slab_act (h : FVec Ideal S1040x1024 .bf16) (W : FVec Ideal S1024x5632 .bf16) (f : ℕ) (r : Fin 1040) (k : Fin 512) (j : Fin 5632)
    (hk : k.val < 256) (hj : j.val = f * 256 + k.val) :
    slabV h W f (ix3 (0 : Fin 1) r k) = ∑ x, h (ix2 r x) * W (ix2 x j) := by
  pointwise [slabV, k0_pay14, colW]
  refine Finset.sum_congr rfl fun x _ => ?_
  have e : (⟨(f * 256 + k.val) % 5632, Nat.mod_lt _ (by decide)⟩ : Fin 5632) = j := Fin.ext (by have := j.isLt; show (f * 256 + k.val) % 5632 = j.val; omega)
  rw [dif_pos hk, e]

theorem slab_lin (h : FVec Ideal S1040x1024 .bf16) (W : FVec Ideal S1024x5632 .bf16) (f : ℕ) (r : Fin 1040) (k : Fin 512) (j : Fin 5632)
    (hk : 256 ≤ k.val) (hj : j.val = 2816 + f * 256 + (k.val - 256)) :
    slabV h W f (ix3 (0 : Fin 1) r k) = ∑ x, h (ix2 r x) * W (ix2 x j) := by
  pointwise [slabV, k0_pay14, colW]
  refine Finset.sum_congr rfl fun x _ => ?_
  have e : (⟨(2816 + f * 256 + (k.val - 256)) % 5632, Nat.mod_lt _ (by decide)⟩ : Fin 5632) = j := Fin.ext (by
    have := j.isLt; show (2816 + f * 256 + (k.val - 256)) % 5632 = j.val; omega)
  rw [dif_neg (by omega), e]

theorem conv_at (P : FVec Ideal S1x1040x512 .f32) (co : ℕ) (C : FVec Ideal S3x5632 .f32) (B : FVec Ideal S1x5632 .f32) (o : ℕ)
    (r : Fin 1024) (k : Fin 256) (j : Fin 5632) (k' : Fin 512) (hj : j.val = o + k.val) (hk : k'.val = co + k.val) :
    convV P co C B o (ix2 r k)
      = P (ix3 (0 : Fin 1) (⟨7 + r.val, by omega⟩ : Fin 1040) k') * C (ix2 0 j)
        + P (ix3 (0 : Fin 1) (⟨8 + r.val, by omega⟩ : Fin 1040) k') * C (ix2 1 j)
        + P (ix3 (0 : Fin 1) (⟨9 + r.val, by omega⟩ : Fin 1040) k') * C (ix2 2 j) + B (ix2 0 j) := by
  pointwise [convV, k0_pay10, k0_pay9, tap, rowC, rowB]
  have e : (⟨(o + k.val) % 5632, Nat.mod_lt _ (by decide)⟩ : Fin 5632) = j := Fin.ext (by have := j.isLt; show (o + k.val) % 5632 = j.val; omega)
  have e' : (⟨(co + k.val) % 512, Nat.mod_lt _ (by decide)⟩ : Fin 512) = k' := Fin.ext (by have := k'.isLt; show (co + k.val) % 512 = k'.val; omega)
  have e7 : (⟨(7 + r.val) % 1040, Nat.mod_lt _ (by decide)⟩ : Fin 1040) = ⟨7 + r.val, by omega⟩ := Fin.ext (by show (7 + r.val) % 1040 = 7 + r.val; omega)
  have e8 : (⟨(8 + r.val) % 1040, Nat.mod_lt _ (by decide)⟩ : Fin 1040) = ⟨8 + r.val, by omega⟩ := Fin.ext (by show (8 + r.val) % 1040 = 8 + r.val; omega)
  have e9 : (⟨(9 + r.val) % 1040, Nat.mod_lt _ (by decide)⟩ : Fin 1040) = ⟨9 + r.val, by omega⟩ := Fin.ext (by show (9 + r.val) % 1040 = 9 + r.val; omega)
  rw [e, e', e7, e8, e9]

theorem gate_at (a l : FVec Ideal S1024x256 .f32) (r : Fin 1024) (k : Fin 256) :
    gateV a l (ix2 r k) = Ideal.ofBits FTy.f32 1056964608#32 * a (ix2 r k)
      * (1 + Ideal.erf (a (ix2 r k) * Ideal.ofBits FTy.f32 1060439283#32)) * l (ix2 r k) := by
  pointwise [gateV]
  rfl

theorem down_at (acc : FVec Ideal S1024x1024 .f32) (z : FVec Ideal S1024x256 .f32) (D : FVec Ideal S2816x1024 .bf16) (o : ℕ) (ho : o + 256 ≤ 2816)
    (r : Fin 1024) (d : Fin 1024) :
    downV acc z (rowD D o) (ix2 r d) = acc (ix2 r d) + ∑ x : Fin 256, z (ix2 r x) * D (ix2 (⟨o + x.val, by omega⟩ : Fin 2816) d) := by
  pointwise [downV, rowD]
  refine congrArg (acc (ix2 r d) + ·) (Finset.sum_congr rfl fun x _ => ?_)
  have e : (⟨(o + x.val) % 2816, Nat.mod_lt _ (by decide)⟩ : Fin 2816) = ⟨o + x.val, by omega⟩ := Fin.ext (by
    show (o + x.val) % 2816 = o + x.val; omega)
  rw [e]

theorem out_at (x : FVec Ideal S1x1024x1024 .f32) (M : FVec Ideal S1x6x1024 .f32) (acc : FVec Ideal S1024x1024 .f32) (r : Fin 1024) (d : Fin 1024) :
    outV x M acc (ix3 (0 : Fin 1) r d) = x (ix3 0 r d) + M (ix3 0 5 d) * acc (ix2 r d) := by
  pointwise [outV, k0_pay2, rowM]

/-- The mask, decided: a row of the halo is kept only if the tile has a neighbour on that side. -/
theorem mask_eq : ∀ (r : Fin 1040) (q : Fin 2),
    IntOp.andi
        (IntOp.ori (IntOp.cmpi CmpIPredicate.sge (BitVec.ofNat 32 r.val) 8#32) (Scalar.cmpi CmpIPredicate.sgt (BitVec.ofNat 32 q.val) 0#32))
        (IntOp.ori (IntOp.cmpi CmpIPredicate.slt (BitVec.ofNat 32 r.val) 1032#32) (Scalar.cmpi CmpIPredicate.slt (BitVec.ofNat 32 q.val) 1#32))
      = if (8 ≤ r.val ∨ q.val = 1) ∧ (r.val < 1032 ∨ q.val = 0) then 1#1 else 0#1 := by
  decide +kernel

/-- A halo row: of the block before, of the tile, or of the block after. -/
def rowAt (x : FVec Ideal S1x1024x1024 .f32) (xp xn : FVec Ideal S1x8x1024 .f32) (r : Fin 1040) (k : Fin 1024) : EReal :=
  if h : r.val < 8 then xp (ix3 0 (⟨r.val, h⟩ : Fin 8) k)
  else if h : r.val - 8 < 1024 then x (ix3 0 (⟨r.val - 8, h⟩ : Fin 1024) k) else xn (ix3 0 (⟨r.val - 8 - 1024, by omega⟩ : Fin 8) k)

theorem h_at (q : Fin 2) (x : FVec Ideal S1x1024x1024 .f32) (xp xn : FVec Ideal S1x8x1024 .f32) (M : FVec Ideal S1x6x1024 .f32)
    (g : FVec Ideal S1x1024 .f32) (r : Fin 1040) (k : Fin 1024) : hV (BitVec.ofNat 32 q.val) x xp xn M g (ix2 r k)
      = if (8 ≤ r.val ∨ q.val = 1) ∧ (r.val < 1032 ∨ q.val = 0) then
          rowAt x xp xn r k * Ideal.rsqrt (Ideal.div (∑ i, rowAt x xp xn r i * rowAt x xp xn r i) (Ideal.ofBits FTy.f32 1149239296#32)
            + Ideal.ofBits FTy.f32 897988541#32) * g (ix2 0 k) * (1 + M (ix3 0 4 k)) + M (ix3 0 3 k)
        else 0 := by
  pointwise [hV, k0_pay5, k0_pay3, k0_pay4, k0_pay2, rowM]
  rw [mask_eq r q]
  split
  · rfl
  · rfl

end Cert.Kernel2Ideal.Ffn
-- ==== Proof.Ffn.Blocks.lean ====
module

public import proofs.«01_k».proof.Proof.Ffn.Open
public import Idealize.ShloMosaic.Lib.Claim

/-! # The ffn kernel's input blocks, read from the argument arrays -/

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

theorem idx : ∀ t : Fin cfg0.N, win0_0.index t = ![t.val / 2, t.val % 2, 0]
    ∧ win0_1.index t = ![t.val / 2, t.val % 2 * 128 - 1, 0]
    ∧ win0_2.index t = ![t.val / 2, min ((t.val % 2 + 1) * 128) 255, 0]
    ∧ win0_3.index t = ![t.val / 2, 0, 0] ∧ win0_4.index t = ![0, 0] ∧ win0_5.index t = ![0, 0] ∧ win0_6.index t = ![0, 0]
    ∧ win0_7.index t = ![0, 0] ∧ win0_8.index t = ![0, 0] ∧ win0_9.index t = ![t.val / 2, t.val % 2, 0] :=
  (by decide +kernel : ∀ t : Fin grid0.N, _)

theorem coord1 : ∀ t : Fin cfg0.N, (grid0.coords t 1).val = t.val % 2 := (by decide +kernel : ∀ t : Fin grid0.N, _)

theorem point_lt (t : Fin cfg0.N) : t.val < 64 := t.isLt

variable (m : (ℓ : Loc nD τ sig) → Buf (Elt Ideal) ℓ) (c : Dev nD)

/-- The arguments as arrays of their printed shapes. -/
abbrev aX : FVec Ideal S32x2048x1024 .f32 := m ((c.tc : Thread nD τ).loc main_arg0)
abbrev aM : FVec Ideal S32x6144 .f32 := m ((c.tc : Thread nD τ).loc main_arg1)
abbrev aG : FVec Ideal S1024 .f32 := m ((c.tc : Thread nD τ).loc main_arg2)
abbrev aW : FVec Ideal S1024x5632 .f32 := m ((c.tc : Thread nD τ).loc main_arg3)
abbrev aC : FVec Ideal S3x5632 .f32 := m ((c.tc : Thread nD τ).loc main_arg4)
abbrev aB : FVec Ideal S5632 .f32 := m ((c.tc : Thread nD τ).loc main_arg5)
abbrev aD : FVec Ideal S2816x1024 .f32 := m ((c.tc : Thread nD τ).loc main_arg6)

theorem blk_x (t : Fin cfg0.N) (r : Fin 1024) (k : Fin 1024) (b : Fin 32) (s : Fin 2048) (hb : b.val = t.val / 2) (hs : s.val = t.val % 2 * 1024 + r.val) :
    (iblk m c 0 t : FVec Ideal S1x1024x1024 .f32) (ix3 (0 : Fin 1) r k) = aX m c (ix3 b s k) := by
  blk_ext [iblk, V, idx t]

theorem blk_prev (t : Fin cfg0.N) (r : Fin 8) (k : Fin 1024) (b : Fin 32) (s : Fin 2048) (hb : b.val = t.val / 2)
    (hs : s.val = (t.val % 2 * 128 - 1) * 8 + r.val) :
    (iblk m c 1 t : FVec Ideal S1x8x1024 .f32) (ix3 (0 : Fin 1) r k) = aX m c (ix3 b s k) := by
  blk_ext [iblk, V, idx t]

theorem blk_next (t : Fin cfg0.N) (r : Fin 8) (k : Fin 1024) (b : Fin 32) (s : Fin 2048) (hb : b.val = t.val / 2)
    (hs : s.val = min ((t.val % 2 + 1) * 128) 255 * 8 + r.val) :
    (iblk m c 2 t : FVec Ideal S1x8x1024 .f32) (ix3 (0 : Fin 1) r k) = aX m c (ix3 b s k) := by
  blk_ext [iblk, V, idx t]

theorem blk_mod (t : Fin cfg0.N) (r : Fin 6) (k : Fin 1024) (b : Fin 32) (s : Fin 6144) (hb : b.val = t.val / 2)
    (hs : s.val = r.val * 1024 + k.val) :
    (iblk m c 3 t : FVec Ideal S1x6x1024 .f32) (ix3 (0 : Fin 1) r k) = aM m c (ix2 b s) := by
  blk_ext! [iblk, V, idx t]

theorem blk_gain (t : Fin cfg0.N) (k : Fin 1024) :
    (iblk m c 4 t : FVec Ideal S1x1024 .f32) (ix2 (0 : Fin 1) k) = aG m c (ix1 k) := by
  blk_ext! [iblk, V, idx t]

theorem blk_up (t : Fin cfg0.N) (r : Fin 1024) (k : Fin 5632) :
    (iblk m c 5 t : FVec Ideal S1024x5632 .bf16) (ix2 r k) = aW m c (ix2 r k) := by
  blk_ext! [iblk, V, idx t]

theorem blk_cw (t : Fin cfg0.N) (r : Fin 3) (k : Fin 5632) :
    (iblk m c 6 t : FVec Ideal S3x5632 .f32) (ix2 r k) = aC m c (ix2 r k) := by
  blk_ext [iblk, V, idx t]

theorem blk_cb (t : Fin cfg0.N) (k : Fin 5632) :
    (iblk m c 7 t : FVec Ideal S1x5632 .f32) (ix2 (0 : Fin 1) k) = aB m c (ix1 k) := by
  blk_ext! [iblk, V, idx t]

theorem blk_down (t : Fin cfg0.N) (r : Fin 2816) (k : Fin 1024) :
    (iblk m c 8 t : FVec Ideal S2816x1024 .bf16) (ix2 r k) = aD m c (ix2 r k) := by
  blk_ext! [iblk, V, idx t]

end Cert.Kernel2Ideal.Ffn
-- ==== Proof.Ffn.Ref.lean ====
module

public import proofs.«01_k».proof.Proof.Gen.Reference2Ideal.Read
public import Idealize.ShloMosaic.Lib.Pipeline.ValueKit

/-! # The reference of the ffn kernel, stage by stage at an index -/

@[expose] public section

set_option maxRecDepth 16384

noncomputable section

open Idealize.ShloMosaic Idealize.ShloMosaic.TcCoe Idealize.SL.Sem

namespace Cert.Reference2Ideal.Ffn

open Cert.Reference2Ideal Cert.Reference2Ideal.Gen Cert.Reference2Ideal.Read

variable (X : FVec Ideal S32x2048x1024 .f32) (Md : FVec Ideal S32x6144 .f32) (G : FVec Ideal S1024 .f32) (W : FVec Ideal S1024x5632 .f32)
  (C : FVec Ideal S3x5632 .f32) (B : FVec Ideal S5632 .f32) (D : FVec Ideal S2816x1024 .f32)

theorem h_at (b : Fin 32) (s : Fin 2048) (i : Fin 1024) : val_main_v25 (F := Ideal) X Md G (ix3 b s i) =
    X (ix3 b s i) * Ideal.rsqrt (Ideal.div (∑ x, X (ix3 b s x) * X (ix3 b s x)) (Ideal.ofBits FTy.f32 1149239296#32)
        + Ideal.ofBits FTy.f32 897988541#32) * G (ix1 i)
      * (1 + Md (ix2 b (⟨4096 + i.val, by omega⟩ : Fin 6144))) + Md (ix2 b (⟨3072 + i.val, by omega⟩ : Fin 6144)) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_cst_0, val_main_cst_1, val_main_cst_2]

theorem up_at (b : Fin 32) (s : Fin 2048) (j : Fin 5632) : val_main_v26 (F := Ideal) X Md G W (ix3 b s j) =
    ∑ x, val_main_v25 (F := Ideal) X Md G (ix3 b s x) * W (ix2 x j) := by
  pointwise [val_main_v26]

theorem pad_at (b : Fin 32) (s : Fin 2050) (j : Fin 5632) : val_main_v27 (F := Ideal) X Md G W (ix3 b s j) =
    if h : 1 ≤ s.val ∧ s.val - 1 < 2048 then val_main_v26 (F := Ideal) X Md G W (ix3 b (⟨s.val - 1, h.2⟩ : Fin 2048) j) else 0 := by
  pointwise [val_main_v27, val_main_call0_v0]
  split
  · rfl
  · exact (show (((0#32).toInt : ℝ) : EReal) = 0 by simp)

theorem conv_at (b : Fin 32) (s : Fin 2048) (j : Fin 5632) : val_main_v50 (F := Ideal) X Md G W C B (ix3 b s j) =
    val_main_v27 (F := Ideal) X Md G W (ix3 b (⟨s.val, by omega⟩ : Fin 2050) j) * C (ix2 0 j)
        + val_main_v27 (F := Ideal) X Md G W (ix3 b (⟨1 + s.val, by omega⟩ : Fin 2050) j) * C (ix2 1 j)
        + val_main_v27 (F := Ideal) X Md G W (ix3 b (⟨2 + s.val, by omega⟩ : Fin 2050) j) * C (ix2 2 j)
      + B (ix1 j) := by
  pointwise [val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28]

theorem gate_at (b : Fin 32) (s : Fin 2048) (j : Fin 2816) : val_main_v60 (F := Ideal) X Md G W C B (ix3 b s j) =
    Ideal.ofBits FTy.f32 1056964608#32 * val_main_v50 (F := Ideal) X Md G W C B (ix3 b s (⟨j.val, by omega⟩ : Fin 5632))
      * (1 + Ideal.erf (val_main_v50 (F := Ideal) X Md G W C B (ix3 b s (⟨j.val, by omega⟩ : Fin 5632)) * Ideal.ofBits FTy.f32 1060439283#32))
      * val_main_v50 (F := Ideal) X Md G W C B (ix3 b s (⟨2816 + j.val, by omega⟩ : Fin 5632)) := by
  pointwise [val_main_v60, val_main_v59, val_main_v58, val_main_v57, val_main_v56, val_main_v55, val_main_v54, val_main_v53, val_main_v52, val_main_v51, val_main_cst_3, val_main_cst_4]
  rw [neg_mul, Ideal.erfc_neg]

theorem out_at (b : Fin 32) (s : Fin 2048) (d : Fin 1024) : val_main_v64 (F := Ideal) X Md G W C B D (ix3 b s d) =
    X (ix3 b s d) + Md (ix2 b (⟨5120 + d.val, by omega⟩ : Fin 6144))
      * ∑ x, val_main_v60 (F := Ideal) X Md G W C B (ix3 b s x) * D (ix2 x d) := by
  pointwise [val_main_v64, val_main_v63, val_main_v62, val_main_v61, val_main_v6, val_main_v0]

end Cert.Reference2Ideal.Ffn
-- ==== Proof.Ffn.Final.lean ====
module

public import proofs.«01_k».proof.Proof.Ffn.After
public import proofs.«01_k».proof.Proof.Ffn.Point
public import proofs.«01_k».proof.Proof.Ffn.Blocks
public import proofs.«01_k».proof.Proof.Ffn.Ref

/-! # The ffn kernel's result is the reference's -/

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen
open Cert.Reference2Ideal.Read (val_main_v25 val_main_v26 val_main_v27 val_main_v50 val_main_v60 val_main_v64)

variable (m : (ℓ : Loc nD τ sig) → Buf (Elt Ideal) ℓ) (c : Dev nD)

/-- The tile's rows with their halo at point `t`. -/
abbrev hB (t : Fin cfg0.N) : FVec Ideal S1040x1024 .bf16 :=
  hV (BitVec.ofNat 32 (grid0.coords t 1)) (iblk m c 0 t) (iblk m c 1 t) (iblk m c 2 t) (iblk m c 3 t) (iblk m c 4 t)

/-- A row of the tile or its halo that lies in the array is that row of the input. -/
theorem row_eq (t : Fin cfg0.N) (r : Fin 1040) (k : Fin 1024) (b : Fin 32) (s : Fin 2048) (hb : b.val = t.val / 2) (h7 : 7 ≤ r.val) (h32 : r.val ≤ 1032)
    (hs : s.val + 8 = t.val % 2 * 1024 + r.val) :
    rowAt (iblk m c 0 t) (iblk m c 1 t) (iblk m c 2 t) r k = aX m c (ix3 b s k) := by
  unfold rowAt
  split
  · next h => exact blk_prev m c t _ k b s hb (by show s.val = (t.val % 2 * 128 - 1) * 8 + r.val; omega)
  · split
    · next h h' => exact blk_x m c t _ k b s hb (by show s.val = t.val % 2 * 1024 + (r.val - 8); omega)
    · next h h' => exact blk_next m c t _ k b s hb (by
        have := s.isLt
        show s.val = min ((t.val % 2 + 1) * 128) 255 * 8 + (r.val - 8 - 1024)
        omega)

theorem h_in (t : Fin cfg0.N) (r : Fin 1040) (k : Fin 1024) (b : Fin 32) (s : Fin 2048) (hb : b.val = t.val / 2) (h7 : 7 ≤ r.val) (h32 : r.val ≤ 1032)
    (hs : s.val + 8 = t.val % 2 * 1024 + r.val) :
    hB m c t (ix2 r k) = val_main_v25 (F := Ideal) (aX m c) (aM m c) (aG m c) (ix3 b s k) := by
  have hc := coord1 t
  have e : BitVec.ofNat 32 (grid0.coords t 1).val = BitVec.ofNat 32 (⟨t.val % 2, by omega⟩ : Fin 2).val := by rw [hc]
  unfold hB
  rw [e, h_at, if_pos (by
    have := s.isLt
    show (8 ≤ r.val ∨ t.val % 2 = 1) ∧ (r.val < 1032 ∨ t.val % 2 = 0)
    omega), Cert.Reference2Ideal.Ffn.h_at]
  simp only [row_eq m c t r _ b s hb h7 h32 hs, blk_gain m c t]
  rw [blk_mod m c t 4 k b ⟨4096 + k.val, by omega⟩ hb (by show 4096 + k.val = 4 * 1024 + k.val; omega),
    blk_mod m c t 3 k b ⟨3072 + k.val, by omega⟩ hb (by show 3072 + k.val = 3 * 1024 + k.val; omega)]

theorem h_out (t : Fin cfg0.N) (r : Fin 1040) (k : Fin 1024)
    (hs : t.val % 2 * 1024 + r.val < 8 ∨ 2056 ≤ t.val % 2 * 1024 + r.val) :
    hB m c t (ix2 r k) = 0 := by
  have hc := coord1 t
  have e : BitVec.ofNat 32 (grid0.coords t 1).val = BitVec.ofNat 32 (⟨t.val % 2, by omega⟩ : Fin 2).val := by rw [hc]
  unfold hB
  rw [e, h_at, if_neg (by
    show ¬((8 ≤ r.val ∨ t.val % 2 = 1) ∧ (r.val < 1032 ∨ t.val % 2 = 0))
    omega)]

/-- A column's up-projection over the tile's rows is the reference's padded one. -/
theorem up_eq (t : Fin cfg0.N) (r : Fin 1040) (j : Fin 5632) (b : Fin 32) (q : Fin 2050) (hb : b.val = t.val / 2) (h7 : 7 ≤ r.val) (h32 : r.val ≤ 1032)
    (hq : q.val + 7 = t.val % 2 * 1024 + r.val) :
    ∑ x, hB m c t (ix2 r x) * (iblk m c 5 t : FVec Ideal S1024x5632 .bf16) (ix2 x j)
      = val_main_v27 (F := Ideal) (aX m c) (aM m c) (aG m c) (aW m c) (ix3 b q j) := by
  rw [Cert.Reference2Ideal.Ffn.pad_at]
  split
  · next h =>
    rw [Cert.Reference2Ideal.Ffn.up_at]
    refine Finset.sum_congr rfl fun x _ => ?_
    rw [h_in m c t r x b ⟨q.val - 1, h.2⟩ hb h7 h32 (by show q.val - 1 + 8 = _; omega), blk_up m c t]
  · next h =>
    refine Finset.sum_eq_zero fun x _ => ?_
    rw [h_out m c t r x (by omega), zero_mul]

/-- One half of a chunk after the taps is the reference's column. -/
theorem conv_eq (t : Fin cfg0.N) (P : FVec Ideal S1x1040x512 .f32) (co o : ℕ) (r : Fin 1024) (k : Fin 256) (j : Fin 5632) (k' : Fin 512) (b : Fin 32) (s : Fin 2048)
    (hj : j.val = o + k.val) (hk : k'.val = co + k.val) (hb : b.val = t.val / 2) (hs : s.val = t.val % 2 * 1024 + r.val)
    (hP : ∀ r : Fin 1040, P (ix3 (0 : Fin 1) r k') = ∑ x, hB m c t (ix2 r x) * (iblk m c 5 t : FVec Ideal S1024x5632 .bf16) (ix2 x j)) :
    convV P co (iblk m c 6 t) (iblk m c 7 t) o (ix2 r k)
      = val_main_v50 (F := Ideal) (aX m c) (aM m c) (aG m c) (aW m c) (aC m c) (aB m c) (ix3 b s j) := by
  rw [conv_at P co _ _ o r k j k' hj hk, Cert.Reference2Ideal.Ffn.conv_at, hP, hP, hP,
    up_eq m c t ⟨7 + r.val, by omega⟩ j b ⟨s.val, by omega⟩ hb (by show 7 ≤ 7 + r.val; omega) (by show 7 + r.val ≤ 1032; omega) (by show s.val + 7 = _ + (7 + r.val); omega),
    up_eq m c t ⟨8 + r.val, by omega⟩ j b ⟨1 + s.val, by omega⟩ hb (by show 7 ≤ 8 + r.val; omega) (by show 8 + r.val ≤ 1032; omega) (by show 1 + s.val + 7 = _ + (8 + r.val); omega),
    up_eq m c t ⟨9 + r.val, by omega⟩ j b ⟨2 + s.val, by omega⟩ hb (by show 7 ≤ 9 + r.val; omega) (by show 9 + r.val ≤ 1032; omega) (by show 2 + s.val + 7 = _ + (9 + r.val); omega),
    blk_cw m c t, blk_cw m c t, blk_cw m c t, blk_cb m c t]

/-- One chunk's gated product is the reference's columns. -/
theorem z_eq (t : Fin cfg0.N) (f : ℕ) (hf : f < 11) (r : Fin 1024) (k : Fin 256) (b : Fin 32) (s : Fin 2048) (j : Fin 2816)
    (hb : b.val = t.val / 2) (hs : s.val = t.val % 2 * 1024 + r.val) (hj : j.val = f * 256 + k.val) :
    zV (hB m c t) (iblk m c 5 t) (iblk m c 6 t) (iblk m c 7 t) f (ix2 r k)
      = val_main_v60 (F := Ideal) (aX m c) (aM m c) (aG m c) (aW m c) (aC m c) (aB m c) (ix3 b s j) := by
  unfold zV
  rw [gate_at, Cert.Reference2Ideal.Ffn.gate_at,
    conv_eq m c t _ 0 (f * 256) r k ⟨j.val, by omega⟩ ⟨k.val, by omega⟩ b s hj (by show k.val = 0 + k.val; omega) hb hs (fun ρ =>
      slab_act _ _ f ρ _ _ k.isLt hj),
    conv_eq m c t _ 256 (2816 + f * 256) r k ⟨2816 + j.val, by omega⟩ ⟨256 + k.val, by omega⟩ b s (by show 2816 + j.val = _; omega) rfl hb hs (fun ρ =>
      slab_lin _ _ f ρ _ _ (by show 256 ≤ 256 + k.val; omega) (by show 2816 + j.val = 2816 + f * 256 + (256 + k.val - 256); omega))]

/-- The reference's down-projection summand at a column, zero past the end. -/
def term (b : Fin 32) (s : Fin 2048) (d : Fin 1024) (j : ℕ) : EReal :=
  if h : j < 2816 then val_main_v60 (F := Ideal) (aX m c) (aM m c) (aG m c) (aW m c) (aC m c) (aB m c) (ix3 b s (⟨j, h⟩ : Fin 2816))
    * aD m c (ix2 (⟨j, h⟩ : Fin 2816) d) else 0

theorem acc_eq (t : Fin cfg0.N) (r : Fin 1024) (d : Fin 1024) (b : Fin 32) (s : Fin 2048)
    (hb : b.val = t.val / 2) (hs : s.val = t.val % 2 * 1024 + r.val) : ∀ f : ℕ, f ≤ 11 →
    accV (hB m c t) (iblk m c 5 t) (iblk m c 6 t) (iblk m c 7 t) (iblk m c 8 t) f (ix2 r d)
      = ∑ j ∈ Finset.range (f * 256), term m c b s d j
  | 0, _ => by
    unfold accV
    pointwise [k0_pay6]
    rfl
  | f + 1, hf => by
    unfold accV
    rw [down_at _ _ _ _ (by omega), acc_eq t r d b s hb hs f (by omega), show (f + 1) * 256 = f * 256 + 256 by omega, Finset.sum_range_add,
      ← Fin.sum_univ_eq_sum_range (fun j => term m c b s d (f * 256 + j)) 256]
    refine congrArg (_ + ·) (Finset.sum_congr rfl fun x _ => ?_)
    rw [z_eq m c t f (by omega) r x b s ⟨f * 256 + x.val, by omega⟩ hb hs rfl, blk_down m c t]
    unfold term
    rw [dif_pos (by omega)]

theorem acc_full (t : Fin cfg0.N) (r : Fin 1024) (d : Fin 1024) (b : Fin 32) (s : Fin 2048)
    (hb : b.val = t.val / 2) (hs : s.val = t.val % 2 * 1024 + r.val) :
    accV (hB m c t) (iblk m c 5 t) (iblk m c 6 t) (iblk m c 7 t) (iblk m c 8 t) 11 (ix2 r d)
      = ∑ x, val_main_v60 (F := Ideal) (aX m c) (aM m c) (aG m c) (aW m c) (aC m c) (aB m c) (ix3 b s x) * aD m c (ix2 x d) := by
  rw [acc_eq m c t r d b s hb hs 11 le_rfl, show 11 * 256 = 2816 from rfl, ← Fin.sum_univ_eq_sum_range (term m c b s d) 2816]
  refine Finset.sum_congr rfl fun x _ => ?_
  unfold term
  rw [dif_pos x.isLt]

/-- What point `t` stores is the reference's result there. -/
theorem point (t : Fin cfg0.N) (r : Fin 1024) (d : Fin 1024) (b : Fin 32) (s : Fin 2048)
    (hb : b.val = t.val / 2) (hs : s.val = t.val % 2 * 1024 + r.val) :
    outV (iblk m c 0 t) (iblk m c 3 t) (accV (hB m c t) (iblk m c 5 t) (iblk m c 6 t) (iblk m c 7 t) (iblk m c 8 t) 11) (ix3 (0 : Fin 1) r d)
      = val_main_v64 (F := Ideal) (aX m c) (aM m c) (aG m c) (aW m c) (aC m c) (aB m c) (aD m c) (ix3 b s d) := by
  rw [out_at, acc_full m c t r d b s hb hs, Cert.Reference2Ideal.Ffn.out_at, blk_x m c t r d b s hb hs,
    blk_mod m c t 5 d b ⟨5120 + d.val, by omega⟩ hb (by show 5120 + d.val = 5 * 1024 + d.val; omega)]

/-- The result array after the run. -/
theorem final : (dats m 0 c).arrAt 9 (cfgs 0).N
    = val_main_v64 (F := Ideal) (aX m c) (aM m c) (aG m c) (aW m c) (aC m c) (aB m c) (aD m c) := by
  refine (dats m 0 c).arrAt_eq_of_covers 9 _ (by decide +kernel) fun t hf y => ?_
  blk_simp
  rw [after_eq]
  have ht := point_lt t
  have hy0 : (y 0).val < 1 := (y 0).isLt
  have hy1 : (y 1).val < 1024 := (y 1).isLt
  have ey : y = ix3 (0 : Fin 1) (⟨(y 1).val, hy1⟩ : Fin 1024) (⟨(y 2).val, (y 2).isLt⟩ : Fin 1024) := by
    blk_ext
  rw [ey]
  refine (point m c t _ _ ⟨t.val / 2, by omega⟩ ⟨t.val % 2 * 1024 + (y 1).val, by omega⟩ rfl rfl).trans ?_
  blk_ext [idx t]

end Cert.Kernel2Ideal.Ffn
-- ==== Proof.Proj.Open.lean ====
module

public import proofs.«01_k».proof.Proof.Gen.Kernel1Ideal.Value
public import Idealize.ShloMosaic.Lib.Pipeline.ValueKit
public import Idealize.ShloMosaic.Lib.Pipeline.ReadBack

/-! # The pieces of the projection call's result block -/

@[expose] public section

set_option maxRecDepth 16384

noncomputable section

open Idealize.ShloMosaic Idealize.ShloMosaic.TcCoe Idealize.SL.Sem
open Idealize.ShloMosaic.Pipeline (Dat)

namespace Cert.Kernel1Ideal.Proj

open Cert.Kernel1Ideal Cert.Kernel1Ideal.Gen

/-- 512 columns of the projection weights from column `o`. -/
def colW (W : FVec Ideal S1024x3072 .bf16) (o : ℕ) : FVec Ideal S1024x512 .bf16 := fun j =>
  W (ix2 (⟨(j 0).val, (j 0).isLt⟩ : Fin 1024) (⟨(o + (j 1).val) % 3072, Nat.mod_lt _ (by decide)⟩ : Fin 3072))

/-- Row `k` of the gains. -/
def rowG (G : FVec Ideal S4x512 .f32) (k : ℕ) : FVec Ideal S1x512 .f32 := fun j =>
  G (ix2 (⟨k % 4, Nat.mod_lt _ (by decide)⟩ : Fin 4) (⟨(j 1).val, (j 1).isLt⟩ : Fin 512))

/-- Row `k` of a modulation block. -/
def rowM (M : FVec Ideal S1x6x1024 .f32) (k : ℕ) : FVec Ideal S1x1x1024 .f32 := fun j =>
  M (ix3 (⟨0, by decide⟩ : Fin 1) (⟨k % 6, Nat.mod_lt _ (by decide)⟩ : Fin 6) (⟨(j 2).val, (j 2).isLt⟩ : Fin 1024))

theorem ld_colW (W : FVec Ideal S1024x3072 .bf16) (o : ℕ) (inb : ∀ a, (![0, o] : Fin 2 → ℕ) a + (![1024, 512] : Fin 2 → ℕ) a ≤ S1024x3072.size a) :
    View.ld (Val := Elt Ideal) (S := S1024x3072) (e' := .bf16) W (Rect.unit (s := S1024x3072) ![0, o] ![1024, 512] inb) = colW W o := by
  have h1 : o + 512 ≤ 3072 := inb 1
  funext j
  have hj : (j 1).val < 512 := (j 1).isLt
  refine View.ld_unit_apply_of (Val := Elt Ideal) (e := .bf16) W _ _ inb j _ fun a => ?_
  match a with
  | ⟨0, _⟩ => show (j 0).val = 0 + (j 0).val; omega
  | ⟨1, _⟩ => show (o + (j 1).val) % 3072 = o + (j 1).val; omega

theorem ld_rowG (G : FVec Ideal S4x512 .f32) (k : ℕ) (inb : ∀ a, (![k, 0] : Fin 2 → ℕ) a + (![1, 512] : Fin 2 → ℕ) a ≤ S4x512.size a) :
    View.ld (Val := Elt Ideal) (S := S4x512) (e' := .f32) G (Rect.unit (s := S4x512) ![k, 0] ![1, 512] inb) = rowG G k := by
  have h0 : k + 1 ≤ 4 := inb 0
  funext j
  have hj0 : (j 0).val < 1 := (j 0).isLt
  refine View.ld_unit_apply_of (Val := Elt Ideal) (e := .f32) G _ _ inb j _ fun a => ?_
  match a with
  | ⟨0, _⟩ => show k % 4 = k + (j 0).val; omega
  | ⟨1, _⟩ => show (j 1).val = 0 + (j 1).val; omega

theorem ld_rowM (M : FVec Ideal S1x6x1024 .f32) (k : ℕ) (inb : ∀ a, (![0, k, 0] : Fin 3 → ℕ) a + (![1, 1, 1024] : Fin 3 → ℕ) a ≤ S1x6x1024.size a) :
    View.ld (Val := Elt Ideal) (S := S1x6x1024) (e' := .f32) M (Rect.unit (s := S1x6x1024) ![0, k, 0] ![1, 1, 1024] inb) = rowM M k := by
  have h1 : k + 1 ≤ 6 := inb 1
  funext j
  have hj0 : (j 0).val < 1 := (j 0).isLt
  have hj1 : (j 1).val < 1 := (j 1).isLt
  refine View.ld_unit_apply_of (Val := Elt Ideal) (e := .f32) M _ _ inb j _ fun a => ?_
  match a with
  | ⟨0, _⟩ => show 0 = 0 + (j 0).val; omega
  | ⟨1, _⟩ => show k % 6 = k + (j 1).val; omega
  | ⟨2, _⟩ => show (j 2).val = 0 + (j 2).val; omega

/-- The modulated rows. -/
def hV (x : FVec Ideal S1x1024x1024 .f32) (M : FVec Ideal S1x6x1024 .f32) (g : FVec Ideal S1x1024 .f32) : FVec Ideal S1024x1024 .bf16 :=
  k0_pay1 x (rowM M 0) (rowM M 1) g

/-- A strip of two heads, each scaled by its root mean square and its gain. -/
def headV (p : FVec Ideal S1024x128 .f32) (g : FVec Ideal S1x128 .f32) : FVec Ideal S1x1024x128 .bf16 :=
  have sq : FVec Ideal S1024x128 .f32 := mulf p p
  have low : IVec S1024x128 1 := broadcastTo S1024x128 (shapeCast S1x128 k0_pay4 shapeCasts_S1x128_S1x128) broadcasts_S1x128_S1024x128
  have z : FVec Ideal S1024x128 .f32 := broadcast S1024x128 (Scalar.ofBits .f32 0x00000000#32)
  have lo : FVec Ideal S1024x1 .f32 := shapeCast S1024x1 (multiReduction .add [1] S1024 (select low sq z) 0x00000000#32 reduces_S1024x128_S1024 (.inl rfl) rfl) shapeCasts_S1024_S1024x1
  have hi : FVec Ideal S1024x1 .f32 := shapeCast S1024x1 (multiReduction .add [1] S1024 (select low z sq) 0x00000000#32 reduces_S1024x128_S1024 (.inl rfl) rfl) shapeCasts_S1024_S1024x1
  have ms : FVec Ideal S1024x128 .f32 := select low (broadcastTo S1024x128 (shapeCast S1024x1 lo shapeCasts_S1024x1_S1024x1) broadcasts_S1024x1_S1024x128)
    (broadcastTo S1024x128 (shapeCast S1024x1 hi shapeCasts_S1024x1_S1024x1) broadcasts_S1024x1_S1024x128)
  shapeCast S1x1024x128 (truncf .bf16 (mulf (mulf p (rsqrt (addf (mulf ms (broadcast S1024x128 (Scalar.ofBits .f32 0x3C800000#32)))
    (broadcast S1024x128 (Scalar.ofBits .f32 0x358637BD#32))))) (broadcastTo S1024x128 g broadcasts_S1x128_S1024x128)) bitsLt_bf16_f32)
    shapeCasts_S1024x128_S1x1024x128

/-- The lane test of the strip. -/
theorem low_sel {α : Type} (k : Fin 128) (a b : α) :
    Scalar.select (IntOp.cmpi CmpIPredicate.slt (BitVec.ofNat 32 k.val) 64#32) a b = if k.val < 64 then a else b := by
  have h : ∀ k : Fin 128, IntOp.cmpi CmpIPredicate.slt (BitVec.ofNat 32 k.val) 64#32 = if k.val < 64 then 1#1 else 0#1 := by decide
  rw [h k]
  by_cases hk : k.val < 64
  · rw [if_pos hk, if_pos hk]; rfl
  · rw [if_neg hk, if_neg hk]; rfl

theorem low_sum (f : Fin 128 → EReal) : ∑ k : Fin 128, (if k.val < 64 then f k else 0) = ∑ i : Fin 64, f ⟨i.val, by omega⟩ := by
  rw [show (∑ k : Fin 128, (if k.val < 64 then f k else 0)) = ∑ k : Fin (64 + 64), (if k.val < 64 then f k else 0) from rfl, Fin.sum_univ_add]
  rw [Finset.sum_congr rfl fun i _ => if_pos (show (Fin.castAdd 64 i).val < 64 from i.isLt),
    Finset.sum_eq_zero fun i _ => if_neg (show ¬ (Fin.natAdd 64 i).val < 64 by simp), add_zero]
  rfl

theorem high_sum (f : Fin 128 → EReal) : ∑ k : Fin 128, (if k.val < 64 then 0 else f k) = ∑ i : Fin 64, f ⟨64 + i.val, by omega⟩ := by
  rw [show (∑ k : Fin 128, (if k.val < 64 then 0 else f k)) = ∑ k : Fin (64 + 64), (if k.val < 64 then 0 else f k) from rfl, Fin.sum_univ_add]
  rw [Finset.sum_eq_zero fun i _ => if_pos (show (Fin.castAdd 64 i).val < 64 from i.isLt),
    Finset.sum_congr rfl fun i _ => if_neg (show ¬ (Fin.natAdd 64 i).val < 64 by simp), zero_add]
  rfl

theorem head_at (p : FVec Ideal S1024x128 .f32) (g : FVec Ideal S1x128 .f32) (r : Fin 1024) (k : Fin 128) :
    headV p g (ix3 (0 : Fin 1) r k) = p (ix2 r k) * Ideal.rsqrt ((∑ i : Fin 64, p (ix2 r ⟨k.val / 64 * 64 + i.val, by omega⟩) * p (ix2 r ⟨k.val / 64 * 64 + i.val, by omega⟩))
      * Ideal.ofBits .f32 0x3C800000#32 + Ideal.ofBits .f32 0x358637BD#32) * g (ix2 (0 : Fin 1) k) := by
  pointwise [headV, k0_pay4]
  simp only [low_sel, low_sum (fun x => p (ix2 r x) * p (ix2 r x)), high_sum (fun x => p (ix2 r x) * p (ix2 r x))]
  have hs : (if k.val < 64 then ∑ i : Fin 64, p (ix2 r ⟨i.val, by omega⟩) * p (ix2 r ⟨i.val, by omega⟩)
      else ∑ i : Fin 64, p (ix2 r ⟨64 + i.val, by omega⟩) * p (ix2 r ⟨64 + i.val, by omega⟩))
      = ∑ i : Fin 64, p (ix2 r ⟨k.val / 64 * 64 + i.val, by omega⟩) * p (ix2 r ⟨k.val / 64 * 64 + i.val, by omega⟩) := by
    by_cases hk : k.val < 64
    · rw [if_pos hk]
      refine Finset.sum_congr rfl fun i _ => ?_
      rw [show (⟨i.val, by omega⟩ : Fin 128) = ⟨k.val / 64 * 64 + i.val, by omega⟩ from Fin.ext (show i.val = k.val / 64 * 64 + i.val by omega)]
    · rw [if_neg hk]
      refine Finset.sum_congr rfl fun i _ => ?_
      rw [show (⟨64 + i.val, by omega⟩ : Fin 128) = ⟨k.val / 64 * 64 + i.val, by omega⟩ from Fin.ext (show 64 + i.val = k.val / 64 * 64 + i.val by omega)]
  rw [hs]

set_option maxHeartbeats 2000000 in
theorem after8 (m : (ℓ : Loc nD τ sig) → Buf (Elt Ideal) ℓ) (c : Dev nD) (t : Fin cfg0.N) : (dats m 0 c).after 8 t
    = k0_pay3 (k0_pay2 (iblk m c 0 t) (rowM (iblk m c 1 t) 0) (rowM (iblk m c 1 t) 1) (iblk m c 2 t) (iblk m c 4 t) (iblk m c 5 t)) := by
  rw [after0_8]
  unfold outsAt0
  frame_open
  frame_out
  simp only [ld_colW, ld_rowG, ld_rowM]

/-- The projected slab of 512 columns from column `o`. -/
def slabV (h : FVec Ideal S1024x1024 .bf16) (W : FVec Ideal S1024x3072 .bf16) (o : ℕ) : FVec Ideal S1024x512 .f32 := k0_pay5 h (colW W o)

/-- Row `r` against column `j` of the weights. -/
def dotV (h : FVec Ideal S1024x1024 .bf16) (W : FVec Ideal S1024x3072 .bf16) (r : Fin 1024) (j : ℕ) : EReal :=
  ∑ k : Fin 1024, h (ix2 r k) * W (ix2 k (⟨j % 3072, Nat.mod_lt _ (by decide)⟩ : Fin 3072))

/-- Column `j` of the call's first result, when its group of 512 columns is normalised by heads under row `g` of the gains. -/
def normV (h : FVec Ideal S1024x1024 .bf16) (W : FVec Ideal S1024x3072 .bf16) (G : FVec Ideal S4x512 .f32) (g : ℕ) (r : Fin 1024) (j : ℕ) : EReal :=
  dotV h W r j * Ideal.rsqrt ((∑ i : Fin 64, dotV h W r (j / 64 * 64 + i.val) * dotV h W r (j / 64 * 64 + i.val))
    * Ideal.ofBits .f32 0x3C800000#32 + Ideal.ofBits .f32 0x358637BD#32)
    * G (ix2 (⟨g % 4, Nat.mod_lt _ (by decide)⟩ : Fin 4) (⟨j % 512, Nat.mod_lt _ (by decide)⟩ : Fin 512))

theorem slab_at (h : FVec Ideal S1024x1024 .bf16) (W : FVec Ideal S1024x3072 .bf16) (b : ℕ) (r : Fin 1024) (k : Fin 512) :
    slabV h W b (ix2 r k) = dotV h W r (b + k.val) := by
  pointwise [slabV, k0_pay5, colW, dotV]
  try rfl

/-- Column `j` of the call's first result: the groups 2 and 5 are the values, the others are normalised by heads. -/
def projV (h : FVec Ideal S1024x1024 .bf16) (W : FVec Ideal S1024x3072 .bf16) (G : FVec Ideal S4x512 .f32) (r : Fin 1024) (j : ℕ) : EReal :=
  if j / 512 = 2 ∨ j / 512 = 5 then dotV h W r j else normV h W G (j / 512 - j / 1536) r j

/-- The strip at column `o` of a slab. -/
def stripV (S : FVec Ideal S1024x512 .f32) (g : FVec Ideal S1x512 .f32) (o : ℕ) (hs : S1024x512.Slices ![0, o] S1024x128)
    (hs' : S1x512.Slices ![0, o] S1x128) : FVec Ideal S1x1024x128 .bf16 :=
  headV (extractStridedSlice S1024x128 ![0, o] S hs) (extractStridedSlice S1x128 ![0, o] g hs')

theorem slice_at (S : FVec Ideal S1024x512 .f32) (o : ℕ) (hs : S1024x512.Slices ![0, o] S1024x128) (r : Fin 1024) (k : Fin 128) (ho : o + k.val < 512) :
    extractStridedSlice S1024x128 ![0, o] S hs (ix2 r k) = S (ix2 r ⟨o + k.val, ho⟩) := by
  refine congrArg S ?_
  funext a
  match a with
  | ⟨0, _⟩ => exact Fin.ext (show 0 + r.val = r.val by omega)
  | ⟨1, _⟩ => rfl

theorem slice_row_at (S : FVec Ideal S1x512 .f32) (o : ℕ) (hs : S1x512.Slices ![0, o] S1x128) (k : Fin 128) (ho : o + k.val < 512) :
    extractStridedSlice S1x128 ![0, o] S hs (ix2 (0 : Fin 1) k) = S (ix2 (0 : Fin 1) ⟨o + k.val, ho⟩) := by
  refine congrArg S ?_
  funext a
  match a with
  | ⟨0, _⟩ => rfl
  | ⟨1, _⟩ => rfl

theorem head_piece (h : FVec Ideal S1024x1024 .bf16) (W : FVec Ideal S1024x3072 .bf16) (G : FVec Ideal S4x512 .f32) (q o : ℕ)
    (hq : q ≠ 2 ∧ q < 5) (ho : o + 128 ≤ 512) (hg : o % 128 = 0) (hs : S1024x512.Slices ![0, o] S1024x128) (hs' : S1x512.Slices ![0, o] S1x128)
    (x : S1x1024x128.Idx) (r : Fin 1024) (j : ℕ) (hr : r.val = (x 1).val) (hj : j = 512 * q + o + (x 2).val) :
    stripV (slabV h W (512 * q)) (k0_pay6 (rowG G (q - q / 3))) o hs hs' x = projV h W G r j := by
  have hx0 : (x 0).val < 1 := (x 0).isLt
  have hx2 : (x 2).val < 128 := (x 2).isLt
  have hq512 : j / 512 = q := by omega
  have hx : x = ix3 (0 : Fin 1) r (⟨(x 2).val, hx2⟩ : Fin 128) := by
    funext a
    match a with
    | ⟨0, _⟩ => exact Fin.ext (show (x 0).val = 0 by omega)
    | ⟨1, _⟩ => exact Fin.ext hr.symm
    | ⟨2, _⟩ => rfl
  generalize hk : (⟨(x 2).val, hx2⟩ : Fin 128) = k at hx
  have hkv : (x 2).val = k.val := by rw [← hk]
  rw [hx, stripV, head_at, projV, if_neg (by omega), normV, slice_at _ _ _ _ _ (by omega), slice_row_at _ _ _ _ (by omega), slab_at,
    show j / 512 - j / 1536 = q - q / 3 by omega]
  have e1 : 512 * q + (o + k.val) = j := by omega
  have e2 : k0_pay6 (rowG G (q - q / 3)) (ix2 (0 : Fin 1) (⟨o + k.val, by omega⟩ : Fin 512))
      = G (ix2 (⟨(q - q / 3) % 4, Nat.mod_lt _ (by decide)⟩ : Fin 4) (⟨j % 512, Nat.mod_lt _ (by decide)⟩ : Fin 512)) := by
    refine Eq.trans (b := rowG G (q - q / 3) (ix2 (0 : Fin 1) (⟨o + k.val, by omega⟩ : Fin 512))) (by pointwise [k0_pay6]) ?_
    show G (ix2 _ (⟨o + k.val, _⟩ : Fin 512)) = _
    rw [show (⟨o + k.val, by omega⟩ : Fin 512) = ⟨j % 512, Nat.mod_lt _ (by decide)⟩ from Fin.ext (show o + k.val = j % 512 by omega)]
  rw [e2, show 512 * q + (⟨o + k.val, by omega⟩ : Fin 512).val = j from e1]
  have e3 : ∀ i : Fin 64, extractStridedSlice S1024x128 ![0, o] (slabV h W (512 * q)) hs (ix2 r (⟨k.val / 64 * 64 + i.val, by omega⟩ : Fin 128))
      = dotV h W r (j / 64 * 64 + i.val) := fun i => by
    rw [slice_at _ _ _ _ _ (show o + (k.val / 64 * 64 + i.val) < 512 by omega), slab_at]
    exact congrArg (dotV h W r) (show 512 * q + (o + (k.val / 64 * 64 + i.val)) = j / 64 * 64 + i.val by omega)
  simp only [e3]

theorem plain_piece (h : FVec Ideal S1024x1024 .bf16) (W : FVec Ideal S1024x3072 .bf16) (G : FVec Ideal S4x512 .f32) (q : ℕ) (hq : q = 2 ∨ q = 5)
    (x : S1x1024x512.Idx) (r : Fin 1024) (j : ℕ) (hr : r.val = (x 1).val) (hj : j = 512 * q + (x 2).val) :
    k0_pay34 h (colW W (512 * q)) x = projV h W G r j := by
  have hx0 : (x 0).val < 1 := (x 0).isLt
  have hx2 : (x 2).val < 512 := (x 2).isLt
  have hx : x = ix3 (0 : Fin 1) r (⟨(x 2).val, hx2⟩ : Fin 512) := by
    funext a
    match a with
    | ⟨0, _⟩ => exact Fin.ext (show (x 0).val = 0 by omega)
    | ⟨1, _⟩ => exact Fin.ext hr.symm
    | ⟨2, _⟩ => rfl
  rw [projV, if_pos (by omega), hj, hx]
  refine Eq.trans ?_ (slab_at h W (512 * q) r ⟨(x 2).val, hx2⟩)
  pointwise [k0_pay34, slabV, k0_pay5]

variable (m : (ℓ : Loc nD τ sig) → Buf (Elt Ideal) ℓ)

set_option maxHeartbeats 400000 in
theorem after7 (c : Dev nD) (t : Fin cfg0.N) (y : S1x1024x3072.Idx) : (dats m 0 c).after 7 t y
    = projV (hV (iblk m c 0 t) (iblk m c 1 t) (iblk m c 2 t)) (iblk m c 3 t) (iblk m c 6 t) (⟨(y 1).val, (y 1).isLt⟩ : Fin 1024) (y 2).val := by
  rw [after0_7]
  unfold outsAt0
  frame_out
  simp only [ld_colW, ld_rowG, ld_rowM]
  generalize iblk m c 0 t = X, iblk m c 1 t = M, iblk m c 2 t = N, iblk m c 3 t = W, iblk m c 6 t = G
  change _ = projV (k0_pay1 X (rowM M 0) (rowM M 1) N) W G _ _
  generalize k0_pay1 X (rowM M 0) (rowM M 1) N = H
  have hr : (⟨(y 1).val, (y 1).isLt⟩ : Fin 1024).val = (y 1).val := rfl
  generalize (⟨(y 1).val, (y 1).isLt⟩ : Fin 1024) = r at hr ⊢
  canon_tiles x h using View.cover_of_tiledBy _ ![1, 1024, 128] (by sl_kernel_rfl) _
  case piece0 => exact Eq.trans (congrFun (g := k0_pay34 H (colW W (512 * 5))) (by rfl) x) (plain_piece H W G 5 (by decide) x r (y 2).val (hr.trans h1) (by omega))
  case piece9 => exact Eq.trans (congrFun (g := k0_pay34 H (colW W (512 * 2))) (by rfl) x) (plain_piece H W G 2 (by decide) x r (y 2).val (hr.trans h1) (by omega))
  case piece1 => exact Eq.trans (congrFun (g := stripV (slabV H W 2048) (k0_pay6 (rowG G 3)) 384 slices_S1024x512_o0_384_S1024x128 slices_S1x512_o0_384_S1x128) (by rfl) x) (head_piece H W G 4 384 (by decide) (by decide) (by decide) _ _ x r (y 2).val (hr.trans h1) (by omega))
  case piece2 => exact Eq.trans (congrFun (g := stripV (slabV H W 2048) (k0_pay6 (rowG G 3)) 256 slices_S1024x512_o0_256_S1024x128 slices_S1x512_o0_256_S1x128) (by rfl) x) (head_piece H W G 4 256 (by decide) (by decide) (by decide) _ _ x r (y 2).val (hr.trans h1) (by omega))
  case piece3 => exact Eq.trans (congrFun (g := stripV (slabV H W 2048) (k0_pay6 (rowG G 3)) 128 slices_S1024x512_o0_128_S1024x128 slices_S1x512_o0_128_S1x128) (by rfl) x) (head_piece H W G 4 128 (by decide) (by decide) (by decide) _ _ x r (y 2).val (hr.trans h1) (by omega))
  case piece4 => exact Eq.trans (congrFun (g := stripV (slabV H W 2048) (k0_pay6 (rowG G 3)) 0 slices_S1024x512_o0_0_S1024x128 slices_S1x512_o0_0_S1x128) (by rfl) x) (head_piece H W G 4 0 (by decide) (by decide) (by decide) _ _ x r (y 2).val (hr.trans h1) (by omega))
  case piece5 => exact Eq.trans (congrFun (g := stripV (slabV H W 1536) (k0_pay6 (rowG G 2)) 384 slices_S1024x512_o0_384_S1024x128 slices_S1x512_o0_384_S1x128) (by rfl) x) (head_piece H W G 3 384 (by decide) (by decide) (by decide) _ _ x r (y 2).val (hr.trans h1) (by omega))
  case piece6 => exact Eq.trans (congrFun (g := stripV (slabV H W 1536) (k0_pay6 (rowG G 2)) 256 slices_S1024x512_o0_256_S1024x128 slices_S1x512_o0_256_S1x128) (by rfl) x) (head_piece H W G 3 256 (by decide) (by decide) (by decide) _ _ x r (y 2).val (hr.trans h1) (by omega))
  case piece7 => exact Eq.trans (congrFun (g := stripV (slabV H W 1536) (k0_pay6 (rowG G 2)) 128 slices_S1024x512_o0_128_S1024x128 slices_S1x512_o0_128_S1x128) (by rfl) x) (head_piece H W G 3 128 (by decide) (by decide) (by decide) _ _ x r (y 2).val (hr.trans h1) (by omega))
  case piece8 => exact Eq.trans (congrFun (g := stripV (slabV H W 1536) (k0_pay6 (rowG G 2)) 0 slices_S1024x512_o0_0_S1024x128 slices_S1x512_o0_0_S1x128) (by rfl) x) (head_piece H W G 3 0 (by decide) (by decide) (by decide) _ _ x r (y 2).val (hr.trans h1) (by omega))
  case piece10 => exact Eq.trans (congrFun (g := stripV (slabV H W 512) (k0_pay6 (rowG G 1)) 384 slices_S1024x512_o0_384_S1024x128 slices_S1x512_o0_384_S1x128) (by rfl) x) (head_piece H W G 1 384 (by decide) (by decide) (by decide) _ _ x r (y 2).val (hr.trans h1) (by omega))
  case piece11 => exact Eq.trans (congrFun (g := stripV (slabV H W 512) (k0_pay6 (rowG G 1)) 256 slices_S1024x512_o0_256_S1024x128 slices_S1x512_o0_256_S1x128) (by rfl) x) (head_piece H W G 1 256 (by decide) (by decide) (by decide) _ _ x r (y 2).val (hr.trans h1) (by omega))
  case piece12 => exact Eq.trans (congrFun (g := stripV (slabV H W 512) (k0_pay6 (rowG G 1)) 128 slices_S1024x512_o0_128_S1024x128 slices_S1x512_o0_128_S1x128) (by rfl) x) (head_piece H W G 1 128 (by decide) (by decide) (by decide) _ _ x r (y 2).val (hr.trans h1) (by omega))
  case piece13 => exact Eq.trans (congrFun (g := stripV (slabV H W 512) (k0_pay6 (rowG G 1)) 0 slices_S1024x512_o0_0_S1024x128 slices_S1x512_o0_0_S1x128) (by rfl) x) (head_piece H W G 1 0 (by decide) (by decide) (by decide) _ _ x r (y 2).val (hr.trans h1) (by omega))
  case piece14 => exact Eq.trans (congrFun (g := stripV (slabV H W 0) (k0_pay6 (rowG G 0)) 384 slices_S1024x512_o0_384_S1024x128 slices_S1x512_o0_384_S1x128) (by rfl) x) (head_piece H W G 0 384 (by decide) (by decide) (by decide) _ _ x r (y 2).val (hr.trans h1) (by omega))
  case piece15 => exact Eq.trans (congrFun (g := stripV (slabV H W 0) (k0_pay6 (rowG G 0)) 256 slices_S1024x512_o0_256_S1024x128 slices_S1x512_o0_256_S1x128) (by rfl) x) (head_piece H W G 0 256 (by decide) (by decide) (by decide) _ _ x r (y 2).val (hr.trans h1) (by omega))
  case piece16 => exact Eq.trans (congrFun (g := stripV (slabV H W 0) (k0_pay6 (rowG G 0)) 128 slices_S1024x512_o0_128_S1024x128 slices_S1x512_o0_128_S1x128) (by rfl) x) (head_piece H W G 0 128 (by decide) (by decide) (by decide) _ _ x r (y 2).val (hr.trans h1) (by omega))
  case piece17 => exact Eq.trans (congrFun (g := stripV (slabV H W 0) (k0_pay6 (rowG G 0)) 0 slices_S1024x512_o0_0_S1024x128 slices_S1x512_o0_0_S1x128) (by rfl) x) (head_piece H W G 0 0 (by decide) (by decide) (by decide) _ _ x r (y 2).val (hr.trans h1) (by omega))

end Cert.Kernel1Ideal.Proj
-- ==== Proof.Proj.Blocks.lean ====
module

public import proofs.«01_k».proof.Proof.Proj.Open
public import Idealize.ShloMosaic.Lib.Claim

/-! # The projection kernel's input blocks, read from the argument arrays -/

@[expose] public section

set_option maxRecDepth 16384

noncomputable section

open Idealize.ShloMosaic Idealize.ShloMosaic.TcCoe Idealize.SL.Sem
open Idealize.ShloMosaic.Pipeline (Dat)

namespace Cert.Kernel1Ideal.Proj

open Cert.Kernel1Ideal Cert.Kernel1Ideal.Gen

theorem idx : ∀ t : Fin cfg0.N, win0_0.index t = ![t.val / 2, t.val % 2, 0]
    ∧ win0_1.index t = ![t.val / 2, 0, 0]
    ∧ win0_2.index t = ![0, 0] ∧ win0_3.index t = ![0, 0] ∧ win0_4.index t = ![0, 0] ∧ win0_5.index t = ![0, 0] ∧ win0_6.index t = ![0, 0]
    ∧ win0_7.index t = ![t.val / 2, t.val % 2, 0] ∧ win0_8.index t = ![t.val / 2, t.val % 2, 0] :=
  (by decide +kernel : ∀ t : Fin grid0.N, _)

theorem point_lt (t : Fin cfg0.N) : t.val < 64 := t.isLt

variable (m : (ℓ : Loc nD τ sig) → Buf (Elt Ideal) ℓ) (c : Dev nD)

/-- The arguments as arrays of their printed shapes. -/
abbrev aX : FVec Ideal S32x2048x1024 .f32 := m ((c.tc : Thread nD τ).loc main_arg0)
abbrev aM : FVec Ideal S32x6144 .f32 := m ((c.tc : Thread nD τ).loc main_arg1)
abbrev aN : FVec Ideal S1024 .f32 := m ((c.tc : Thread nD τ).loc main_arg2)
abbrev aW : FVec Ideal S1024x3072 .f32 := m ((c.tc : Thread nD τ).loc main_arg3)
abbrev aNQ : FVec Ideal S64 .f32 := m ((c.tc : Thread nD τ).loc main_arg4)
abbrev aNK : FVec Ideal S64 .f32 := m ((c.tc : Thread nD τ).loc main_arg5)
abbrev aDQ : FVec Ideal S64 .f32 := m ((c.tc : Thread nD τ).loc main_arg6)
abbrev aDK : FVec Ideal S64 .f32 := m ((c.tc : Thread nD τ).loc main_arg7)
abbrev aWG : FVec Ideal S1024x2048 .f32 := m ((c.tc : Thread nD τ).loc main_arg8)
abbrev aBG : FVec Ideal S2048 .f32 := m ((c.tc : Thread nD τ).loc main_arg9)

theorem blk_x (t : Fin cfg0.N) (r : Fin 1024) (k : Fin 1024) (b : Fin 32) (s : Fin 2048) (hb : b.val = t.val / 2) (hs : s.val = t.val % 2 * 1024 + r.val) :
    (iblk m c 0 t : FVec Ideal S1x1024x1024 .f32) (ix3 (0 : Fin 1) r k) = aX m c (ix3 b s k) := by
  blk_ext [iblk, V, idx t]

theorem blk_mod (t : Fin cfg0.N) (r : Fin 6) (k : Fin 1024) (b : Fin 32) (s : Fin 6144) (hb : b.val = t.val / 2)
    (hs : s.val = r.val * 1024 + k.val) :
    (iblk m c 1 t : FVec Ideal S1x6x1024 .f32) (ix3 (0 : Fin 1) r k) = aM m c (ix2 b s) := by
  blk_ext! [iblk, V, idx t]

theorem blk_gain (t : Fin cfg0.N) (k : Fin 1024) :
    (iblk m c 2 t : FVec Ideal S1x1024 .f32) (ix2 (0 : Fin 1) k) = aN m c (ix1 k) := by
  blk_ext! [iblk, V, idx t]

theorem blk_w (t : Fin cfg0.N) (r : Fin 1024) (k : Fin 3072) :
    (iblk m c 3 t : FVec Ideal S1024x3072 .bf16) (ix2 r k) = aW m c (ix2 r k) := by
  blk_ext! [iblk, V, idx t]

theorem blk_wg (t : Fin cfg0.N) (r : Fin 1024) (k : Fin 2048) :
    (iblk m c 4 t : FVec Ideal S1024x2048 .bf16) (ix2 r k) = aWG m c (ix2 r k) := by
  blk_ext! [iblk, V, idx t]

theorem blk_bg (t : Fin cfg0.N) (k : Fin 2048) :
    (iblk m c 5 t : FVec Ideal S1x2048 .f32) (ix2 (0 : Fin 1) k) = aBG m c (ix1 k) := by
  blk_ext! [iblk, V, idx t]

end Cert.Kernel1Ideal.Proj
-- ==== Proof.Proj.Ref.lean ====
module

public import proofs.«01_k».proof.Proof.Gen.Reference1Ideal.Read
public import Idealize.ShloMosaic.Lib.Pipeline.ValueKit

/-! # The reference of the projection kernel, stage by stage at an index -/

@[expose] public section

set_option maxRecDepth 16384

noncomputable section

open Idealize.ShloMosaic Idealize.ShloMosaic.TcCoe Idealize.SL.Sem

namespace Cert.Reference1Ideal.Proj

open Cert.Reference1Ideal Cert.Reference1Ideal.Gen Cert.Reference1Ideal.Read

variable (X : FVec Ideal S32x2048x1024 .f32) (Md : FVec Ideal S32x6144 .f32) (N : FVec Ideal S1024 .f32) (W : FVec Ideal S1024x3072 .f32)
  (nq nk dq dk : FVec Ideal S64 .f32) (WG : FVec Ideal S1024x2048 .f32) (BG : FVec Ideal S2048 .f32)

theorem h_at (b : Fin 32) (s : Fin 2048) (i : Fin 1024) : val_main_v25 (F := Ideal) X Md N (ix3 b s i) =
    X (ix3 b s i) * Ideal.rsqrt (Ideal.div (∑ x, X (ix3 b s x) * X (ix3 b s x)) (Ideal.ofBits FTy.f32 1149239296#32)
        + Ideal.ofBits FTy.f32 897988541#32) * N (ix1 i)
      * (1 + Md (ix2 b (⟨1024 + i.val, by omega⟩ : Fin 6144))) + Md (ix2 b (⟨i.val, by omega⟩ : Fin 6144)) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_cst_0, val_main_cst_1, val_main_cst_2]

theorem dot_at (b : Fin 32) (s : Fin 2048) (j : Fin 3072) : val_main_v26 (F := Ideal) X Md N W (ix3 b s j) =
    ∑ x, val_main_v25 (F := Ideal) X Md N (ix3 b s x) * W (ix2 x j) := by
  pointwise [val_main_v26]

theorem gate_at (b : Fin 32) (s : Fin 2048) (j : Fin 2048) : val_main_v109 (F := Ideal) X Md N WG BG (ix3 b s j) =
    Ideal.div 1 (1 + Ideal.exp (-((∑ x, val_main_v25 (F := Ideal) X Md N (ix3 b s x) * WG (ix2 x j)) + BG (ix1 j)))) := by
  pointwise [val_main_v109, val_main_v107, val_main_v106, val_main_v105, val_main_v104, val_main_v103, val_main_v102, val_main_v101, val_main_v100, val_main_v99, val_main_v98, val_main_cst_17, val_main_cst_18]

/-- Column `j` of a group of 512 columns from column `o`, scaled by the root mean square of its head of 64 columns and its gain. -/
def headR (P : FVec Ideal S32x2048x3072 .f32) (g : FVec Ideal S64 .f32) (o : ℕ) (ho : o + 512 ≤ 3072) (b : Fin 32) (s : Fin 2048) (j : Fin 512) : EReal :=
  P (ix3 b s (⟨o + j.val, by omega⟩ : Fin 3072)) *
      Ideal.rsqrt (Ideal.div (∑ x : Fin 64, P (ix3 b s (⟨o + (j.val / 64 * 64 + x.val), by omega⟩ : Fin 3072))
         * P (ix3 b s (⟨o + (j.val / 64 * 64 + x.val), by omega⟩ : Fin 3072))) (Ideal.ofBits .f32 0x42800000#32) + Ideal.ofBits .f32 0x358637BD#32)
      * g (ix1 (⟨j.val % 64, by omega⟩ : Fin 64))

theorem nq_at (b : Fin 32) (s : Fin 2048) (j : Fin 512) : val_main_v93 (F := Ideal) X Md N W nq (ix3 b s j) =
    headR (val_main_v26 (F := Ideal) X Md N W) nq 0 (by decide) b s j * Ideal.ofBits .f32 0x3E38AA3B#32 := by
  pointwise [val_main_v93, val_main_v48, val_main_v47, val_main_v46, val_main_v45, val_main_v44, val_main_v43, val_main_v42, val_main_v41, val_main_v40, val_main_v39, val_main_v38, val_main_v37, val_main_v36, val_main_v35, val_main_v34, val_main_v33, val_main_v27, val_main_cst_3, val_main_cst_4, val_main_cst_5, val_main_cst_6, headR]

theorem nk_at (b : Fin 32) (s : Fin 2048) (j : Fin 512) : val_main_v94 (F := Ideal) X Md N W nk (ix3 b s j) =
    headR (val_main_v26 (F := Ideal) X Md N W) nk 512 (by decide) b s j := by
  pointwise [val_main_v94, val_main_v62, val_main_v61, val_main_v60, val_main_v59, val_main_v58, val_main_v57, val_main_v56, val_main_v55, val_main_v54, val_main_v53, val_main_v52, val_main_v51, val_main_v50, val_main_v49, val_main_v28, val_main_cst_7, val_main_cst_8, val_main_cst_9, headR]

theorem dq_at (b : Fin 32) (s : Fin 2048) (j : Fin 512) : val_main_v95 (F := Ideal) X Md N W dq (ix3 b s j) =
    headR (val_main_v26 (F := Ideal) X Md N W) dq 1536 (by decide) b s j * Ideal.ofBits .f32 0x3E38AA3B#32 := by
  pointwise [val_main_v95, val_main_v78, val_main_v77, val_main_v76, val_main_v75, val_main_v74, val_main_v73, val_main_v72, val_main_v71, val_main_v70, val_main_v69, val_main_v68, val_main_v67, val_main_v66, val_main_v65, val_main_v64, val_main_v63, val_main_v30, val_main_cst_10, val_main_cst_11, val_main_cst_12, val_main_cst_13, headR]
  simp only [show j.val / 128 * 128 + j.val / 64 % 2 * 64 = j.val / 64 * 64 by omega]

theorem dk_at (b : Fin 32) (s : Fin 2048) (j : Fin 512) : val_main_v96 (F := Ideal) X Md N W dk (ix3 b s j) =
    headR (val_main_v26 (F := Ideal) X Md N W) dk 2048 (by decide) b s j := by
  pointwise [val_main_v96, val_main_v92, val_main_v91, val_main_v90, val_main_v89, val_main_v88, val_main_v87, val_main_v86, val_main_v85, val_main_v84, val_main_v83, val_main_v82, val_main_v81, val_main_v80, val_main_v79, val_main_v31, val_main_cst_14, val_main_cst_15, val_main_cst_16, headR]
  simp only [show j.val / 128 * 128 + j.val / 64 % 2 * 64 = j.val / 64 * 64 by omega]

theorem cat_at (b : Fin 32) (s : Fin 2048) (j : Fin 3072) : val_main_v108 (F := Ideal) X Md N W nq nk dq dk (ix3 b s j) =
    if h : j.val < 512 then headR (val_main_v26 (F := Ideal) X Md N W) nq 0 (by decide) b s ⟨j.val, h⟩ * Ideal.ofBits .f32 0x3E38AA3B#32
    else if h1 : j.val - 512 < 512 then headR (val_main_v26 (F := Ideal) X Md N W) nk 512 (by decide) b s ⟨j.val - 512, h1⟩
    else if h2 : j.val - 512 - 512 < 512 then val_main_v26 (F := Ideal) X Md N W (ix3 b s j)
    else if h3 : j.val - 512 - 512 - 512 < 512 then headR (val_main_v26 (F := Ideal) X Md N W) dq 1536 (by decide) b s ⟨j.val - 512 - 512 - 512, h3⟩ * Ideal.ofBits .f32 0x3E38AA3B#32
    else if h4 : j.val - 512 - 512 - 512 - 512 < 512 then headR (val_main_v26 (F := Ideal) X Md N W) dk 2048 (by decide) b s ⟨j.val - 512 - 512 - 512 - 512, h4⟩
    else val_main_v26 (F := Ideal) X Md N W (ix3 b s j) := by
  pointwise [val_main_v108, val_main_v97, val_main_v29, val_main_v32]
  simp only [nq_at, nk_at, dq_at, dk_at]
  by_cases h : j.val < 512
  · simp only [h, dif_pos]
  simp only [h, dif_neg, not_false_eq_true]
  by_cases h1 : j.val - 512 < 512
  · simp only [h1, dif_pos]
  simp only [h1, dif_neg, not_false_eq_true]
  by_cases h2 : j.val - 512 - 512 < 512
  · simp only [h2, dif_pos]
    exact congrArg (fun q => val_main_v26 (F := Ideal) X Md N W (ix3 b s q)) (Fin.ext (show 1024 + (j.val - 512 - 512) = j.val by omega))
  simp only [h2, dif_neg, not_false_eq_true]
  by_cases h3 : j.val - 512 - 512 - 512 < 512
  · simp only [h3, dif_pos]
  simp only [h3, dif_neg, not_false_eq_true]
  by_cases h4 : j.val - 512 - 512 - 512 - 512 < 512
  · simp only [h4, dif_pos]
  simp only [h4, dif_neg, not_false_eq_true]
  exact congrArg (fun q => val_main_v26 (F := Ideal) X Md N W (ix3 b s q)) (Fin.ext (show 2560 + (j.val - 512 - 512 - 512 - 512 - 512) = j.val by omega))

end Cert.Reference1Ideal.Proj
-- ==== Proof.Proj.Point.lean ====
module

public import proofs.«01_k».proof.Proof.Proj.Blocks
public import proofs.«01_k».proof.Proof.Proj.Ref
public import Idealize.ShloMosaic.PureOps.Ideal.Laws

/-! # What a grid point computes, against the reference -/

@[expose] public section

set_option maxRecDepth 16384

noncomputable section

open Idealize.ShloMosaic Idealize.ShloMosaic.TcCoe Idealize.SL.Sem
open Idealize.ShloMosaic.Pipeline (Dat)

namespace Cert.Kernel1Ideal.Proj

open Cert.Kernel1Ideal Cert.Kernel1Ideal.Gen
open Cert.Reference1Ideal.Read (val_main_v25 val_main_v26 val_main_v108 val_main_v109)

theorem sixty_four : Ideal.ofBits .f32 0x42800000#32 = ((64 : ℝ) : EReal) := by
  simp [Ideal.ofBits, Ideal.ieee, -EReal.coe_mul]; norm_num

theorem one_sixty_fourth : Ideal.ofBits .f32 0x3C800000#32 = ((1 / 64 : ℝ) : EReal) := by
  simp [Ideal.ofBits, Ideal.ieee, -EReal.coe_mul]; norm_num

/-- Dividing by 64 is multiplying by its reciprocal. -/
theorem div_sixty_four (x : EReal) : Ideal.div x (Ideal.ofBits .f32 0x42800000#32) = x * Ideal.ofBits .f32 0x3C800000#32 := by
  rw [sixty_four, one_sixty_fourth, Ideal.div_coe (by norm_num : (64 : ℝ) ≠ 0)]

theorem h_at (x : FVec Ideal S1x1024x1024 .f32) (M : FVec Ideal S1x6x1024 .f32) (g : FVec Ideal S1x1024 .f32) (r : Fin 1024) (k : Fin 1024) :
    hV x M g (ix2 r k) = x (ix3 (0 : Fin 1) r k) * Ideal.rsqrt (Ideal.div (∑ i : Fin 1024, x (ix3 (0 : Fin 1) r i) * x (ix3 (0 : Fin 1) r i)) (Ideal.ofBits .f32 0x44800000#32)
        + Ideal.ofBits .f32 0x358637BD#32) * g (ix2 (0 : Fin 1) k)
      * (1 + M (ix3 (0 : Fin 1) (1 : Fin 6) k)) + M (ix3 (0 : Fin 1) (0 : Fin 6) k) := by
  pointwise [hV, k0_pay1, rowM]

/-- The tile's gates. -/
def gatesV (x : FVec Ideal S1x1024x1024 .f32) (M : FVec Ideal S1x6x1024 .f32) (g : FVec Ideal S1x1024 .f32) (w : FVec Ideal S1024x2048 .bf16)
    (bg : FVec Ideal S1x2048 .f32) : FVec Ideal S1x1024x2048 .bf16 :=
  k0_pay3 (k0_pay2 x (rowM M 0) (rowM M 1) g w bg)

theorem gate_at (x : FVec Ideal S1x1024x1024 .f32) (M : FVec Ideal S1x6x1024 .f32) (g : FVec Ideal S1x1024 .f32) (w : FVec Ideal S1024x2048 .bf16)
    (bg : FVec Ideal S1x2048 .f32) (r : Fin 1024) (j : Fin 2048) :
    gatesV x M g w bg (ix3 (0 : Fin 1) r j)
      = Ideal.logistic ((∑ k : Fin 1024, hV x M g (ix2 r k) * w (ix2 k j)) + bg (ix2 (0 : Fin 1) j)) := by
  pointwise [gatesV, k0_pay3, k0_pay2, hV]

variable (m : (ℓ : Loc nD τ sig) → Buf (Elt Ideal) ℓ) (c : Dev nD)

theorem h_eq (t : Fin cfg0.N) (r : Fin 1024) (k : Fin 1024) (b : Fin 32) (s : Fin 2048) (hb : b.val = t.val / 2) (hs : s.val = t.val % 2 * 1024 + r.val) :
    hV (iblk m c 0 t) (iblk m c 1 t) (iblk m c 2 t) (ix2 r k) = val_main_v25 (F := Ideal) (aX m c) (aM m c) (aN m c) (ix3 b s k) := by
  rw [h_at, Cert.Reference1Ideal.Proj.h_at]
  simp only [blk_x m c t r _ b s hb hs, blk_gain m c t]
  rw [blk_mod m c t 1 k b ⟨1024 + k.val, by omega⟩ hb (by show 1024 + k.val = 1 * 1024 + k.val; omega),
    blk_mod m c t 0 k b ⟨k.val, by omega⟩ hb (by show k.val = 0 * 1024 + k.val; omega)]

theorem dot_eq (t : Fin cfg0.N) (r : Fin 1024) (j : ℕ) (J : Fin 3072) (b : Fin 32) (s : Fin 2048) (hb : b.val = t.val / 2) (hs : s.val = t.val % 2 * 1024 + r.val) (hj : J.val = j) :
    dotV (hV (iblk m c 0 t) (iblk m c 1 t) (iblk m c 2 t)) (iblk m c 3 t) r j
      = val_main_v26 (F := Ideal) (aX m c) (aM m c) (aN m c) (aW m c) (ix3 b s J) := by
  have e : (⟨j % 3072, Nat.mod_lt _ (by decide)⟩ : Fin 3072) = J := Fin.ext (show j % 3072 = J.val by have := J.isLt; omega)
  rw [Cert.Reference1Ideal.Proj.dot_at]
  unfold dotV
  rw [e]
  exact Finset.sum_congr rfl fun x _ => by rw [h_eq m c t r x b s hb hs, blk_w m c t]

theorem gates_point (t : Fin cfg0.N) (r : Fin 1024) (j : Fin 2048) (b : Fin 32) (s : Fin 2048) (hb : b.val = t.val / 2) (hs : s.val = t.val % 2 * 1024 + r.val) :
    gatesV (iblk m c 0 t) (iblk m c 1 t) (iblk m c 2 t) (iblk m c 4 t) (iblk m c 5 t) (ix3 (0 : Fin 1) r j)
      = val_main_v109 (F := Ideal) (aX m c) (aM m c) (aN m c) (aWG m c) (aBG m c) (ix3 b s j) := by
  rw [gate_at, Cert.Reference1Ideal.Proj.gate_at, Ideal.logistic, blk_bg m c t]
  simp only [h_eq m c t r _ b s hb hs, blk_wg m c t]

/-- A normalised column of the tile is the reference's, before the fold of the query scale. -/
theorem norm_eq (t : Fin cfg0.N) (r : Fin 1024) (o : ℕ) (ho : o + 512 ≤ 3072) (h64 : o % 512 = 0) (j : Fin 512) (b : Fin 32) (s : Fin 2048)
    (hb : b.val = t.val / 2) (hs : s.val = t.val % 2 * 1024 + r.val) (g : FVec Ideal S64 .f32) (w : EReal) (k : ℕ)
    (hg : (iblk m c 6 t : FVec Ideal S4x512 .f32) (ix2 (⟨k % 4, Nat.mod_lt _ (by decide)⟩ : Fin 4) j) = g (ix1 (⟨j.val % 64, by omega⟩ : Fin 64)) * w) :
    normV (hV (iblk m c 0 t) (iblk m c 1 t) (iblk m c 2 t)) (iblk m c 3 t) (iblk m c 6 t) k r (o + j.val)
      = Cert.Reference1Ideal.Proj.headR (val_main_v26 (F := Ideal) (aX m c) (aM m c) (aN m c) (aW m c)) g o ho b s j * w := by
  unfold normV Cert.Reference1Ideal.Proj.headR
  have ej : (⟨(o + j.val) % 512, Nat.mod_lt _ (by decide)⟩ : Fin 512) = j := Fin.ext (show (o + j.val) % 512 = j.val by omega)
  have ed : ∀ i : Fin 64, dotV (hV (iblk m c 0 t) (iblk m c 1 t) (iblk m c 2 t)) (iblk m c 3 t) r ((o + j.val) / 64 * 64 + i.val)
      = val_main_v26 (F := Ideal) (aX m c) (aM m c) (aN m c) (aW m c) (ix3 b s (⟨o + (j.val / 64 * 64 + i.val), by omega⟩ : Fin 3072)) := fun i =>
    dot_eq m c t r _ _ b s hb hs (show o + (j.val / 64 * 64 + i.val) = (o + j.val) / 64 * 64 + i.val by omega)
  rw [ej, hg, dot_eq m c t r (o + j.val) ⟨o + j.val, by omega⟩ b s hb hs rfl, div_sixty_four]
  simp only [ed, mul_assoc]

end Cert.Kernel1Ideal.Proj
-- ==== Proof.Proj.Gains.lean ====
module

public import proofs.«01_k».proof.Proof.Proj.Blocks

/-! # The gain rows that the call is given -/

@[expose] public section

set_option maxRecDepth 16384

noncomputable section

open Idealize.ShloMosaic Idealize.ShloMosaic.TcCoe Idealize.SL.Sem
open Idealize.ShloMosaic.Pipeline (Dat)

namespace Cert.Kernel1Ideal.Proj

open Cert.Kernel1Ideal Cert.Kernel1Ideal.Gen

variable (m : (ℓ : Loc nD τ sig) → Buf (Elt Ideal) ℓ) (c : Dev nD)

/-- A head's gain repeated for the eight heads. -/
def rep (g : FVec Ideal S64 .f32) : FVec Ideal S512 .f32 :=
  shapeCast S512 (broadcastInDim S8x64 ![0, 1] bcast_S1x64_S8x64_0_1 (shapeCast S1x64 g shapeCasts_S64_S1x64)) shapeCasts_S8x64_S512

/-- The scale on every column. -/
def sc : FVec Ideal S512 .f32 := broadcastInDim S512 ![] bcast_S_S512 (constant (F := Ideal) S_ .f32 0x3E38AA3B#32)

/-- One row of gains. -/
def rowV (g : FVec Ideal S512 .f32) : FVec Ideal S1x512 .f32 := broadcastInDim S1x512 ![1] bcast_S512_S1x512_1 g

/-- The four rows. -/
def gainsV (a b d e : FVec Ideal S64 .f32) : FVec Ideal S4x512 .f32 :=
  concatenate S4x512 0 [⟨S1x512, rowV (mulf (rep a) sc)⟩, ⟨S1x512, rowV (rep b)⟩, ⟨S1x512, rowV (mulf (rep d) sc)⟩, ⟨S1x512, rowV (rep e)⟩]
    concatenates_S1x512_S1x512_S1x512_S1x512_S4x512_d0

theorem V_gains : (V m c main_v20 : FVec Ideal S4x512 .f32) = gainsV (aNQ m c) (aNK m c) (aDQ m c) (aDK m c) := by
  sl_kernel_rfl

theorem rep_at (g : FVec Ideal S64 .f32) (k : Fin 512) : rep g (ix1 k) = g (ix1 (⟨k.val % 64, by omega⟩ : Fin 64)) := by
  pointwise [rep]
  try blk_ext

theorem nq_row (a b d e : FVec Ideal S64 .f32) (k : Fin 512) :
    gainsV a b d e (ix2 (0 : Fin 4) k) = a (ix1 (⟨k.val % 64, by omega⟩ : Fin 64)) * Ideal.ofBits .f32 0x3E38AA3B#32 := by
  pointwise [gainsV, rowV, sc, rep_at]

theorem nk_row (a b d e : FVec Ideal S64 .f32) (k : Fin 512) :
    gainsV a b d e (ix2 (1 : Fin 4) k) = b (ix1 (⟨k.val % 64, by omega⟩ : Fin 64)) := by
  pointwise [gainsV, rowV, sc, rep_at]

theorem dq_row (a b d e : FVec Ideal S64 .f32) (k : Fin 512) :
    gainsV a b d e (ix2 (2 : Fin 4) k) = d (ix1 (⟨k.val % 64, by omega⟩ : Fin 64)) * Ideal.ofBits .f32 0x3E38AA3B#32 := by
  pointwise [gainsV, rowV, sc, rep_at]

theorem dk_row (a b d e : FVec Ideal S64 .f32) (k : Fin 512) :
    gainsV a b d e (ix2 (3 : Fin 4) k) = e (ix1 (⟨k.val % 64, by omega⟩ : Fin 64)) := by
  pointwise [gainsV, rowV, sc, rep_at]

theorem blk_gains (t : Fin cfg0.N) (r : Fin 4) (k : Fin 512) :
    (iblk m c 6 t : FVec Ideal S4x512 .f32) (ix2 r k) = gainsV (aNQ m c) (aNK m c) (aDQ m c) (aDK m c) (ix2 r k) := by
  rw [← V_gains]
  blk_ext [iblk, idx t]

theorem blk_nq (t : Fin cfg0.N) (k : Fin 512) :
    (iblk m c 6 t : FVec Ideal S4x512 .f32) (ix2 (0 : Fin 4) k) = aNQ m c (ix1 (⟨k.val % 64, by omega⟩ : Fin 64)) * Ideal.ofBits .f32 0x3E38AA3B#32 :=
  (blk_gains m c t 0 k).trans (nq_row _ _ _ _ k)

theorem blk_nk (t : Fin cfg0.N) (k : Fin 512) :
    (iblk m c 6 t : FVec Ideal S4x512 .f32) (ix2 (1 : Fin 4) k) = aNK m c (ix1 (⟨k.val % 64, by omega⟩ : Fin 64)) :=
  (blk_gains m c t 1 k).trans (nk_row _ _ _ _ k)

theorem blk_dq (t : Fin cfg0.N) (k : Fin 512) :
    (iblk m c 6 t : FVec Ideal S4x512 .f32) (ix2 (2 : Fin 4) k) = aDQ m c (ix1 (⟨k.val % 64, by omega⟩ : Fin 64)) * Ideal.ofBits .f32 0x3E38AA3B#32 :=
  (blk_gains m c t 2 k).trans (dq_row _ _ _ _ k)

theorem blk_dk (t : Fin cfg0.N) (k : Fin 512) :
    (iblk m c 6 t : FVec Ideal S4x512 .f32) (ix2 (3 : Fin 4) k) = aDK m c (ix1 (⟨k.val % 64, by omega⟩ : Fin 64)) :=
  (blk_gains m c t 3 k).trans (dk_row _ _ _ _ k)

end Cert.Kernel1Ideal.Proj
-- ==== Proof.Proj.Final.lean ====
module

public import proofs.«01_k».proof.Proof.Proj.Point
public import proofs.«01_k».proof.Proof.Proj.Gains

/-! # The projection kernel's results are the reference's -/

@[expose] public section

set_option maxRecDepth 16384

noncomputable section

open Idealize.ShloMosaic Idealize.ShloMosaic.TcCoe Idealize.SL.Sem
open Idealize.ShloMosaic.Pipeline (Dat)

namespace Cert.Kernel1Ideal.Proj

open Cert.Kernel1Ideal Cert.Kernel1Ideal.Gen
open Cert.Reference1Ideal.Read (val_main_v25 val_main_v26 val_main_v108 val_main_v109)

variable (m : (ℓ : Loc nD τ sig) → Buf (Elt Ideal) ℓ) (c : Dev nD)

theorem point (t : Fin cfg0.N) (r : Fin 1024) (j : Fin 3072) (b : Fin 32) (s : Fin 2048) (hb : b.val = t.val / 2) (hs : s.val = t.val % 2 * 1024 + r.val) :
    projV (hV (iblk m c 0 t) (iblk m c 1 t) (iblk m c 2 t)) (iblk m c 3 t) (iblk m c 6 t) r j.val
      = val_main_v108 (F := Ideal) (aX m c) (aM m c) (aN m c) (aW m c) (aNQ m c) (aNK m c) (aDQ m c) (aDK m c) (ix3 b s j) := by
  have hj := j.isLt
  have norm : ∀ (o : ℕ) (ho : o + 512 ≤ 3072) (h64 : o % 512 = 0) (q : Fin 512) (e : j.val = o + q.val) (g : FVec Ideal S64 .f32) (w : EReal) (k : ℕ)
      (hk : j.val / 512 - j.val / 1536 = k)
      (hg : (iblk m c 6 t : FVec Ideal S4x512 .f32) (ix2 (⟨k % 4, Nat.mod_lt _ (by decide)⟩ : Fin 4) q) = g (ix1 (⟨q.val % 64, by omega⟩ : Fin 64)) * w),
      normV (hV (iblk m c 0 t) (iblk m c 1 t) (iblk m c 2 t)) (iblk m c 3 t) (iblk m c 6 t) (j.val / 512 - j.val / 1536) r j.val
        = Cert.Reference1Ideal.Proj.headR (val_main_v26 (F := Ideal) (aX m c) (aM m c) (aN m c) (aW m c)) g o ho b s q * w := by
    intro o ho h64 q e g w k hk hg
    rw [hk, e]
    exact norm_eq m c t r o ho h64 q b s hb hs g w k hg
  rw [Cert.Reference1Ideal.Proj.cat_at]
  unfold projV
  by_cases h : j.val < 512
  · rw [dif_pos h, if_neg (by omega)]
    exact norm 0 (by decide) rfl ⟨j.val, h⟩ (by simp) _ _ 0 (by omega) (blk_nq m c t ⟨j.val, h⟩)
  rw [dif_neg h]
  by_cases h1 : j.val - 512 < 512
  · rw [dif_pos h1, if_neg (by omega)]
    exact (norm 512 (by decide) rfl ⟨j.val - 512, h1⟩ (by show j.val = 512 + (j.val - 512); omega) (aNK m c) 1 1 (by omega)
      ((blk_nk m c t ⟨j.val - 512, h1⟩).trans (mul_one (_ : EReal)).symm)).trans (mul_one _)
  rw [dif_neg h1]
  by_cases h2 : j.val - 512 - 512 < 512
  · rw [dif_pos h2, if_pos (by omega)]
    exact dot_eq m c t r _ _ b s hb hs rfl
  rw [dif_neg h2]
  by_cases h3 : j.val - 512 - 512 - 512 < 512
  · rw [dif_pos h3, if_neg (by omega)]
    exact norm 1536 (by decide) rfl ⟨j.val - 512 - 512 - 512, h3⟩ (by show j.val = 1536 + (j.val - 512 - 512 - 512); omega) _ _ 2 (by omega) (blk_dq m c t _)
  rw [dif_neg h3]
  by_cases h4 : j.val - 512 - 512 - 512 - 512 < 512
  · rw [dif_pos h4, if_neg (by omega)]
    exact (norm 2048 (by decide) rfl ⟨j.val - 512 - 512 - 512 - 512, h4⟩ (by show j.val = 2048 + (j.val - 512 - 512 - 512 - 512); omega) (aDK m c) 1 3 (by omega)
      ((blk_dk m c t _).trans (mul_one (_ : EReal)).symm)).trans (mul_one _)
  rw [dif_neg h4, if_pos (by omega)]
  exact dot_eq m c t r _ _ b s hb hs rfl

/-- The first result array after the run. -/
theorem final : (dats m 0 c).arrAt 7 (cfgs 0).N
    = val_main_v108 (F := Ideal) (aX m c) (aM m c) (aN m c) (aW m c) (aNQ m c) (aNK m c) (aDQ m c) (aDK m c) := by
  refine (dats m 0 c).arrAt_eq_of_covers 7 _ (by decide +kernel) fun t hf y => ?_
  blk_simp
  rw [after7]
  have ht := point_lt t
  have hy0 : (y 0).val < 1 := (y 0).isLt
  have hy1 : (y 1).val < 1024 := (y 1).isLt
  refine (point m c t ⟨(y 1).val, hy1⟩ (⟨(y 2).val, (y 2).isLt⟩ : Fin 3072) ⟨t.val / 2, by omega⟩ ⟨t.val % 2 * 1024 + (y 1).val, by omega⟩ rfl rfl).trans ?_
  blk_ext [idx t]

/-- The second result array after the run. -/
theorem final_gates : (dats m 0 c).arrAt 8 (cfgs 0).N
    = val_main_v109 (F := Ideal) (aX m c) (aM m c) (aN m c) (aWG m c) (aBG m c) := by
  refine (dats m 0 c).arrAt_eq_of_covers 8 _ (by decide +kernel) fun t hf y => ?_
  blk_simp
  rw [after8]
  have ht := point_lt t
  have hy0 : (y 0).val < 1 := (y 0).isLt
  have hy1 : (y 1).val < 1024 := (y 1).isLt
  have ey : y = ix3 (0 : Fin 1) (⟨(y 1).val, hy1⟩ : Fin 1024) (⟨(y 2).val, (y 2).isLt⟩ : Fin 2048) := by
    blk_ext
  rw [ey]
  refine (gates_point m c t _ _ ⟨t.val / 2, by omega⟩ ⟨t.val % 2 * 1024 + (y 1).val, by omega⟩ rfl rfl).trans ?_
  blk_ext [idx t]

end Cert.Kernel1Ideal.Proj
-- ==== Proof.Adaln.Final.lean ====
module

public import proofs.«01_k».proof.Proof.Gen.Kernel0Ideal.Value
public import proofs.«01_k».proof.Proof.Gen.Reference0Ideal.Read
public import Idealize.ShloMosaic.Lib.Pipeline.ValueKit
public import Idealize.ShloMosaic.Lib.Pipeline.ReadBack
public import Idealize.ShloMosaic.Lib.Claim

/-! # The adaLN table's result is the reference's -/

@[expose] public section

set_option maxRecDepth 16384

noncomputable section

open Idealize.ShloMosaic Idealize.ShloMosaic.TcCoe Idealize.SL.Sem
open Idealize.ShloMosaic.Pipeline (Dat)

namespace Cert.Kernel0Ideal.Adaln

open Cert.Kernel0Ideal Cert.Kernel0Ideal.Gen
open Cert.Reference0Ideal.Read (val_main_call0_v0 val_main_call0_v1 val_main_call0_v2 val_main_call0_v3 val_main_call0_v4 val_main_call0_v5
  val_main_call0_cst val_main_call0_cst_0 val_main_v0 val_main_v1 val_main_v2 val_main_v3 val_main_v4)

theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

theorem point_lt (t : Fin cfg0.N) : t.val < 6 := t.isLt

/-- A column of the table, from the activations and that column of the weights. -/
theorem col_at (x : FVec Ideal S32x1024 .f32) (w : FVec Ideal S1024x1024 .f32) (b : FVec Ideal S1x1024 .f32) (r : Fin 32) (j : Fin 1024) :
    k0_pay1 x w b (ix2 r j) = (∑ k : Fin 1024, x (ix2 r k) * Ideal.logistic (x (ix2 r k)) * w (ix2 k j)) + b (ix2 (0 : Fin 1) j) := by
  pointwise [k0_pay1]

theorem ref_at (x : FVec Ideal S32x1024 .f32) (w : FVec Ideal S1024x6144 .f32) (b : FVec Ideal S6144 .f32) (r : Fin 32) (j : Fin 6144) :
    val_main_v4 (F := Ideal) x w b (ix2 r j)
      = (∑ k : Fin 1024, x (ix2 r k) * Ideal.div 1 (1 + Ideal.exp (-x (ix2 r k))) * w (ix2 k j)) + b (ix1 j) := by
  pointwise [val_main_call0_v0, val_main_call0_v1, val_main_call0_v2, val_main_call0_v3, val_main_call0_v4, val_main_call0_v5,
    val_main_call0_cst, val_main_call0_cst_0, val_main_v0, val_main_v1, val_main_v2, val_main_v3, val_main_v4]

variable (m : (ℓ : Loc nD τ sig) → Buf (Elt Ideal) ℓ) (c : Dev nD)

/-- The arguments as arrays of their printed shapes. -/
abbrev aC : FVec Ideal S32x1024 .f32 := m ((c.tc : Thread nD τ).loc main_arg0)
abbrev aW : FVec Ideal S1024x6144 .f32 := m ((c.tc : Thread nD τ).loc main_arg1)
abbrev aB : FVec Ideal S6144 .f32 := m ((c.tc : Thread nD τ).loc main_arg2)

theorem blk_c (t : Fin cfg0.N) (r : Fin 32) (k : Fin 1024) :
    (iblk m c 0 t : FVec Ideal S32x1024 .f32) (ix2 r k) = aC m c (ix2 r k) := by
  blk_ext! [iblk, V, idx t]

theorem blk_w (t : Fin cfg0.N) (k j : Fin 1024) (J : Fin 6144) (hj : J.val = t.val * 1024 + j.val) :
    (iblk m c 1 t : FVec Ideal S1024x1024 .f32) (ix2 k j) = aW m c (ix2 k J) := by
  blk_ext! [iblk, V, idx t]

theorem blk_b (t : Fin cfg0.N) (j : Fin 1024) (J : Fin 6144) (hj : J.val = t.val * 1024 + j.val) :
    (iblk m c 2 t : FVec Ideal S1x1024 .f32) (ix2 (0 : Fin 1) j) = aB m c (ix1 J) := by
  blk_ext! [iblk, V, idx t]

theorem after3 (t : Fin cfg0.N) : (dats m 0 c).after 3 t = k0_pay1 (iblk m c 0 t) (iblk m c 1 t) (iblk m c 2 t) := by
  rw [after0_3]
  unfold out0_3
  frame_out

theorem point (t : Fin cfg0.N) (r : Fin 32) (j : Fin 1024) (J : Fin 6144) (hj : J.val = t.val * 1024 + j.val) :
    k0_pay1 (iblk m c 0 t) (iblk m c 1 t) (iblk m c 2 t) (ix2 r j) = val_main_v4 (F := Ideal) (aC m c) (aW m c) (aB m c) (ix2 r J) := by
  rw [col_at (iblk m c 0 t) (iblk m c 1 t) (iblk m c 2 t), ref_at, blk_b m c t j J hj]
  simp only [blk_c m c t, blk_w m c t _ j J hj, Ideal.logistic]

/-- The result array after the run. -/
theorem final : (dats m 0 c).arrAt 3 (cfgs 0).N = val_main_v4 (F := Ideal) (aC m c) (aW m c) (aB m c) := by
  refine (dats m 0 c).arrAt_eq_of_covers 3 _ (by decide +kernel) fun t hf y => ?_
  blk_simp
  rw [after3]
  have ht := point_lt t
  have hy0 : (y 0).val < 32 := (y 0).isLt
  have hy1 : (y 1).val < 1024 := (y 1).isLt
  have ey : y = ix2 (⟨(y 0).val, hy0⟩ : Fin 32) (⟨(y 1).val, hy1⟩ : Fin 1024) := by
    blk_ext
  rw [ey]
  refine (point m c t _ _ ⟨t.val * 1024 + (y 1).val, by omega⟩ rfl).trans ?_
  blk_ext [idx t]

end Cert.Kernel0Ideal.Adaln
-- ==== Proof.Attn.Math.lean ====
module

public import Idealize.ShloMosaic.PureOps.Ideal
public import Mathlib.Algebra.BigOperators.Fin
public import Mathlib.Data.EReal.Inv

/-!
# The arithmetic of the two softmax forms

A weighted sum normalised after the fact, over base-two exponentials with masked keys, is the softmax
of the shifted logits; two normalised sums combine the same way. Both over the extended reals.
-/

@[expose] public section

noncomputable section

namespace Cert.Attn

open Idealize.ShloMosaic

/-- A positive real factor moves into a finite sum of extended reals. -/
theorem sum_mul_pos {ι : Type*} (s : Finset ι) (f : ι → EReal) (c : ℝ) (hc : 0 < c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc.le) (EReal.coe_ne_top c) _ _

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp2_real (x : ℝ) : Ideal.exp2 (x : EReal) = ((Real.exp (x * Real.log 2) : ℝ) : EReal) := by
  show ((Real.rpow 2 x : ℝ) : EReal) = _
  congr 1
  show (2 : ℝ) ^ x = _
  rw [Real.rpow_def_of_pos (by norm_num), mul_comm]

theorem exp2_bot : Ideal.exp2 ⊥ = 0 := rfl

theorem div_real (x y : ℝ) (hy : y ≠ 0) : Ideal.div (x : EReal) (y : EReal) = ((x / y : ℝ) : EReal) := by
  rw [Ideal.div_coe hy, ← EReal.coe_mul, mul_one_div]

/-- The normalised softmax weight does not depend on the shift. -/
theorem softmax_shift {J : Type*} [Fintype J] [Nonempty J] (L : J → ℝ) (M : ℝ) (j : J) :
    Ideal.div (Ideal.exp ((L j : EReal) - (M : EReal))) (∑ j', Ideal.exp ((L j' : EReal) - (M : EReal)))
      = ((Real.exp (L j) / ∑ j', Real.exp (L j') : ℝ) : EReal) := by
  have h : ∀ j, Ideal.exp ((L j : EReal) - (M : EReal)) = ((Real.exp (L j - M) : ℝ) : EReal) := fun j => by
    rw [← EReal.coe_sub]; rfl
  have hp : 0 < ∑ j', Real.exp (L j') := Finset.sum_pos (fun _ _ => Real.exp_pos _) Finset.univ_nonempty
  have hs : ∑ j', Real.exp (L j' - M) = (∑ j', Real.exp (L j')) * Real.exp (-M) := by
    rw [Finset.sum_mul]; exact Finset.sum_congr rfl fun j _ => by rw [sub_eq_add_neg, Real.exp_add]
  rw [h, Finset.sum_congr rfl fun j _ => h j, ← coe_sum, hs, div_real _ _ (mul_ne_zero hp.ne' (Real.exp_pos _).ne')]
  rw [sub_eq_add_neg, Real.exp_add, mul_div_mul_right _ _ (Real.exp_pos _).ne']

/-- Masked keys, exponentials to base two and division at the end: the softmax over the keys kept. -/
theorem masked_attn {K J : Type*} [Fintype K] [Fintype J] [Nonempty J] (e : J → K) (he : Function.Injective e)
    (S V : K → EReal) (s : J → ℝ) (hS : ∀ j, S (e j) = (s j : EReal)) (hB : ∀ k, k ∉ Set.range e → S k = ⊥) (M : ℝ) :
    (∑ k, Ideal.exp2 (S k) * V k) * Ideal.div 1 (∑ k, Ideal.exp2 (S k))
      = ∑ j, Ideal.div (Ideal.exp (((s j * Real.log 2 : ℝ) : EReal) - (M : EReal)))
          (∑ j', Ideal.exp (((s j' * Real.log 2 : ℝ) : EReal) - (M : EReal))) * V (e j) := by
  have hnum : ∑ k, Ideal.exp2 (S k) * V k = ∑ j, ((Real.exp (s j * Real.log 2) : ℝ) : EReal) * V (e j) := by
    symm
    refine Finset.sum_of_injOn e (he.injOn) (fun _ _ => Finset.mem_coe.2 (Finset.mem_univ _)) (fun k _ hk => ?_) (fun j _ => ?_)
    · rw [hB k (by simpa using hk), exp2_bot, zero_mul]
    · rw [hS, exp2_real]
  have hden : ∑ k, Ideal.exp2 (S k) = ∑ j, ((Real.exp (s j * Real.log 2) : ℝ) : EReal) := by
    symm
    refine Finset.sum_of_injOn e (he.injOn) (fun _ _ => Finset.mem_coe.2 (Finset.mem_univ _)) (fun k _ hk => ?_) (fun j _ => ?_)
    · rw [hB k (by simpa using hk), exp2_bot]
    · rw [hS, exp2_real]
  have hp : 0 < ∑ j, Real.exp (s j * Real.log 2) := Finset.sum_pos (fun _ _ => Real.exp_pos _) Finset.univ_nonempty
  rw [hnum, hden, ← coe_sum, ← EReal.coe_one, div_real _ _ hp.ne', sum_mul_pos _ _ _ (by positivity)]
  refine Finset.sum_congr rfl fun j _ => ?_
  rw [softmax_shift (fun j => s j * Real.log 2) M j, mul_right_comm, ← EReal.coe_mul, mul_one_div]

/-- One key's term of the difference of two softmaxes, with the second's weight folded into a ratio. -/
theorem diff_term (lam V : EReal) (p0 p1 l0 l1 : ℝ) (h0 : 0 < l0) (h1 : 0 < l1) :
    (((p0 : EReal) - lam * (l0 : EReal) * Ideal.div 1 (l1 : EReal) * (p1 : EReal)) * V) * ((1 / l0 : ℝ) : EReal)
      = V * (((p0 / l0 : ℝ) : EReal) - lam * ((p1 / l1 : ℝ) : EReal)) := by
  have hd : Ideal.div 1 (l1 : EReal) = ((1 / l1 : ℝ) : EReal) := by rw [← EReal.coe_one, div_real _ _ h1.ne']
  have hc : (0 : ℝ) < 1 / l0 := by positivity
  have key : ((p0 : EReal) - lam * (l0 : EReal) * ((1 / l1 : ℝ) : EReal) * (p1 : EReal)) * ((1 / l0 : ℝ) : EReal)
      = ((p0 / l0 : ℝ) : EReal) - lam * ((p1 / l1 : ℝ) : EReal) := by
    rw [sub_eq_add_neg, EReal.right_distrib_of_nonneg_of_ne_top (by exact_mod_cast hc.le) (EReal.coe_ne_top _), ← EReal.coe_mul,
      EReal.neg_mul, sub_eq_add_neg, mul_one_div]
    congr 2
    rw [mul_assoc lam, mul_assoc lam, mul_assoc lam, ← EReal.coe_mul, ← EReal.coe_mul, ← EReal.coe_mul]
    congr 2
    field_simp
  rw [hd, mul_right_comm, key, mul_comm]

/-- Two groups of keys, one normaliser each: the difference of two softmaxes over all keys. -/
theorem diff_attn {K : Type*} [Fintype K] [Nonempty K] {A B : Type*} [Fintype A] [Fintype B] (a : A → K) (b : B → K)
    (hsum : ∀ f : K → EReal, ∑ k, f k = ∑ i, f (a i) + ∑ i, f (b i)) (lam : EReal) (V : K → EReal) (s0 s1 : K → ℝ) (M0 M1 : ℝ) :
    (∑ i, (Ideal.exp2 (s0 (a i)) - lam * (∑ i, Ideal.exp2 (s0 (a i)) + ∑ i, Ideal.exp2 (s0 (b i)))
          * Ideal.div 1 (∑ i, Ideal.exp2 (s1 (a i)) + ∑ i, Ideal.exp2 (s1 (b i))) * Ideal.exp2 (s1 (a i))) * V (a i)
      + ∑ i, (Ideal.exp2 (s0 (b i)) - lam * (∑ i, Ideal.exp2 (s0 (a i)) + ∑ i, Ideal.exp2 (s0 (b i)))
          * Ideal.div 1 (∑ i, Ideal.exp2 (s1 (a i)) + ∑ i, Ideal.exp2 (s1 (b i))) * Ideal.exp2 (s1 (b i))) * V (b i))
      * Ideal.div 1 (∑ i, Ideal.exp2 (s0 (a i)) + ∑ i, Ideal.exp2 (s0 (b i)))
    = ∑ k, V k * (Ideal.div (Ideal.exp (((s0 k * Real.log 2 : ℝ) : EReal) - (M0 : EReal)))
          (∑ k', Ideal.exp (((s0 k' * Real.log 2 : ℝ) : EReal) - (M0 : EReal)))
        - lam * Ideal.div (Ideal.exp (((s1 k * Real.log 2 : ℝ) : EReal) - (M1 : EReal)))
          (∑ k', Ideal.exp (((s1 k' * Real.log 2 : ℝ) : EReal) - (M1 : EReal)))) := by
  have hl : ∀ s : K → ℝ, ∑ i, Ideal.exp2 (s (a i)) + ∑ i, Ideal.exp2 (s (b i))
      = ((∑ k, Real.exp (s k * Real.log 2) : ℝ) : EReal) := fun s => by
    rw [← hsum fun k => Ideal.exp2 (s k), coe_sum]
    exact Finset.sum_congr rfl fun k _ => exp2_real _
  have hp : ∀ s : K → ℝ, 0 < ∑ k, Real.exp (s k * Real.log 2) := fun s =>
    Finset.sum_pos (fun _ _ => Real.exp_pos _) Finset.univ_nonempty
  rw [hl s0, hl s1, ← hsum fun k => (Ideal.exp2 (s0 k) - lam * ((∑ k, Real.exp (s0 k * Real.log 2) : ℝ) : EReal)
    * Ideal.div 1 ((∑ k, Real.exp (s1 k * Real.log 2) : ℝ) : EReal) * Ideal.exp2 (s1 k)) * V k]
  have hd : Ideal.div 1 ((∑ k, Real.exp (s0 k * Real.log 2) : ℝ) : EReal) = ((1 / ∑ k, Real.exp (s0 k * Real.log 2) : ℝ) : EReal) := by
    rw [← EReal.coe_one, div_real _ _ (hp s0).ne']
  rw [hd, sum_mul_pos _ _ _ (one_div_pos.2 (hp s0))]
  refine Finset.sum_congr rfl fun k _ => ?_
  rw [exp2_real, exp2_real, diff_term _ _ _ _ _ _ (hp s0) (hp s1), softmax_shift (fun k => s0 k * Real.log 2) M0 k,
    softmax_shift (fun k => s1 k * Real.log 2) M1 k]

/-- A sum over 2048 keys, read as the 1792 that follow a tile cyclically and the tile's own 256. -/
theorem sum_tile (t0 : ℕ) (h : t0 + 256 ≤ 2048) (f : Fin 2048 → EReal) :
    ∑ k, f k = ∑ j : Fin 1792, f ⟨(t0 + 256 + j.val) % 2048, Nat.mod_lt _ (by decide)⟩
      + ∑ j : Fin 256, f ⟨t0 + j.val, by have := j.isLt; omega⟩ := by
  have hr : Function.Bijective fun j : Fin 2048 => (⟨(t0 + 256 + j.val) % 2048, Nat.mod_lt _ (by decide)⟩ : Fin 2048) := by
    refine (Finite.injective_iff_bijective).1 fun x y hxy => ?_
    have h1 : (t0 + 256 + x.val) % 2048 = (t0 + 256 + y.val) % 2048 := congrArg Fin.val hxy
    have := x.isLt; have := y.isLt
    exact Fin.ext (by omega)
  rw [← hr.sum_comp f]
  have hs := Fin.sum_univ_add (M := EReal) (a := 1792) (b := 256) fun j : Fin 2048 =>
    f (⟨(t0 + 256 + j.val) % 2048, Nat.mod_lt _ (by decide)⟩ : Fin 2048)
  refine hs.trans ?_
  congr 1
  refine Finset.sum_congr rfl fun j _ => congrArg f (Fin.ext ?_)
  show (t0 + 256 + (1792 + j.val)) % 2048 = t0 + j.val
  have := j.isLt
  omega

end Cert.Attn

end
-- ==== Proof.Attn.RefIdx.lean ====
module

public import proofs.«01_k».proof.Proof.Gen.Reference3Ideal.Read
public import Idealize.ShloMosaic.Lib.Pipeline.ValueKit

/-!
# The neighbourhood's index arrays in the reference

The window of a token as natural numbers: its first row and first column, the flattened key indices
and the offsets into the bias table, and the three gathers read at them.
-/

@[expose] public section

noncomputable section

open Idealize.ShloMosaic Idealize.ShloMosaic.TcCoe

namespace Cert.Attn

/-- First column of the window of column `c`. -/
def c0 (c : ℕ) : ℕ := min (c - 8) 48

/-- First row of the window of row `r`. -/
def r0 (r : ℕ) : ℕ := min (r - 4) 24

/-- Key `j` of the window of token `p`. -/
def keyN (p j : ℕ) : ℕ := (r0 (p / 64) + j / 16) * 64 + (c0 (p % 64) + j % 16)

/-- Its place in the flattened bias table of a head. -/
def offN (p j : ℕ) : ℕ := (r0 (p / 64) + j / 16 + 7 - p / 64) * 31 + (c0 (p % 64) + j % 16 + 15 - p % 64)

theorem keyN_lt {p j : ℕ} (hp : p < 2048) (hj : j < 128) : keyN p j < 2048 := by
  unfold keyN r0 c0; omega

theorem offN_lt {p j : ℕ} (hp : p < 2048) (hj : j < 128) : offN p j < 465 := by
  unfold offN r0 c0; omega

/-- A small index is not negative, and is its own clamped value. -/
theorem wrap_small (n m : ℕ) (hn : n < 2 ^ 31) (x : BitVec 32) :
    Scalar.select (IntOp.cmpi .slt (BitVec.ofNat 32 n) 0#32) x (BitVec.ofNat 32 n) = BitVec.ofNat 32 n := by
  have h : (BitVec.ofNat 32 n).slt 0#32 = false := by
    rw [BitVec.slt_eq_decide]
    have : (BitVec.ofNat 32 n).toInt = n := by
      rw [BitVec.toInt_eq_toNat_cond, BitVec.toNat_ofNat]
      omega
    rw [this]
    simp
  show (if BitVec.ofBool ((BitVec.ofNat 32 n).slt 0#32) = 1#1 then _ else _) = _
  rw [h]
  rfl

theorem toInt_small (n : ℕ) (hn : n < 2 ^ 31) : (BitVec.ofNat 32 n).toInt.toNat = n := by
  have : (BitVec.ofNat 32 n).toInt = n := by
    rw [BitVec.toInt_eq_toNat_cond, BitVec.toNat_ofNat]
    omega
  rw [this]; rfl

end Cert.Attn

namespace Cert.Reference3Ideal.Attn

open Cert.Reference3Ideal Cert.Reference3Ideal.Gen Cert.Reference3Ideal.Read Cert.Attn

theorem col0_at : ∀ c : Fin 64, val_main_v20 (F := Ideal) (ix1 c) = BitVec.ofNat 32 (c0 c.val) := by
  intro c
  show IntOp.minsi 48#32 (IntOp.maxsi 0#32 (IntOp.subi (BitVec.ofNat 32 c.val) 8#32)) = _
  revert c
  decide

theorem row0_at : ∀ c : Fin 32, val_main_v35 (F := Ideal) (ix1 c) = BitVec.ofNat 32 (r0 c.val) := by
  intro c
  show IntOp.minsi 24#32 (IntOp.maxsi 0#32 (IntOp.subi (BitVec.ofNat 32 c.val) 4#32)) = _
  revert c
  decide

theorem col_at (c : Fin 64) (k : Fin 16) : val_main_v26 (F := Ideal) (ix2 c k) = BitVec.ofNat 32 (c0 c.val + k.val) := by
  have h : val_main_v26 (F := Ideal) (ix2 c k) = val_main_v20 (F := Ideal) (ix1 c) + BitVec.ofNat 32 k.val := by
    pointwise [val_main_v26, val_main_v25, val_main_v24, val_main_v23, val_main_v22, val_main_v21]
    rfl
  rw [h, col0_at, ← BitVec.ofNat_add]

theorem row_at (c : Fin 32) (k : Fin 8) : val_main_v41 (F := Ideal) (ix2 c k) = BitVec.ofNat 32 (r0 c.val + k.val) := by
  have h : val_main_v41 (F := Ideal) (ix2 c k) = val_main_v35 (F := Ideal) (ix1 c) + BitVec.ofNat 32 k.val := by
    pointwise [val_main_v41, val_main_v40, val_main_v39, val_main_v38, val_main_v37, val_main_v36]
    rfl
  rw [h, row0_at, ← BitVec.ofNat_add]

theorem dc_at : ∀ (c : Fin 64) (k : Fin 16), val_main_v31 (F := Ideal) (ix2 c k) = BitVec.ofNat 32 (c0 c.val + k.val + 15 - c.val) := by
  intro c k
  have h : val_main_v31 (F := Ideal) (ix2 c k) = val_main_v26 (F := Ideal) (ix2 c k) - BitVec.ofNat 32 c.val + 15#32 := by
    pointwise [val_main_v31, val_main_v30, val_main_v29, val_main_v28, val_main_v27, val_main_v17, val_main_c_2]
    rfl
  rw [h, col_at]
  have : c.val ≤ c0 c.val + k.val + 15 := by unfold c0; omega
  apply BitVec.eq_of_toNat_eq
  have hc := c.isLt; have hk := k.isLt
  have h0 : c0 c.val ≤ 48 := by unfold c0; omega
  simp only [BitVec.toNat_add, BitVec.toNat_sub, BitVec.toNat_ofNat]
  omega

theorem dr_at : ∀ (c : Fin 32) (k : Fin 8), val_main_v46 (F := Ideal) (ix2 c k) = BitVec.ofNat 32 (r0 c.val + k.val + 7 - c.val) := by
  intro c k
  have h : val_main_v46 (F := Ideal) (ix2 c k) = val_main_v41 (F := Ideal) (ix2 c k) - BitVec.ofNat 32 c.val + 7#32 := by
    pointwise [val_main_v46, val_main_v45, val_main_v44, val_main_v43, val_main_v42, val_main_v32, val_main_c_6]
    rfl
  rw [h, row_at]
  have : c.val ≤ r0 c.val + k.val + 7 := by unfold r0; omega
  apply BitVec.eq_of_toNat_eq
  have hc := c.isLt; have hk := k.isLt
  have h0 : r0 c.val ≤ 24 := by unfold r0; omega
  simp only [BitVec.toNat_add, BitVec.toNat_sub, BitVec.toNat_ofNat]
  omega

theorem key_at (p : Fin 2048) (j : Fin 128) : val_main_v54 (F := Ideal) (ix2 p j) = BitVec.ofNat 32 (keyN p.val j.val) := by
  have h : val_main_v54 (F := Ideal) (ix2 p j) = val_main_v41 (F := Ideal) (ix2 (⟨p.val / 64, by omega⟩ : Fin 32) (⟨j.val / 16, by omega⟩ : Fin 8)) * 64#32
      + val_main_v26 (F := Ideal) (ix2 (⟨p.val % 64, by omega⟩ : Fin 64) (⟨j.val % 16, by omega⟩ : Fin 16)) := by
    pointwise [val_main_v54, val_main_v53, val_main_v52, val_main_v51, val_main_v50, val_main_v49, val_main_v48, val_main_v47, val_main_c_7]
    rfl
  rw [h, row_at, col_at]
  show BitVec.ofNat 32 _ * BitVec.ofNat 32 64 + _ = _
  rw [← BitVec.ofNat_mul, ← BitVec.ofNat_add]
  rfl

theorem off_at (p : Fin 2048) (j : Fin 128) : val_main_v62 (F := Ideal) (ix2 p j) = BitVec.ofNat 32 (offN p.val j.val) := by
  have h : val_main_v62 (F := Ideal) (ix2 p j) = val_main_v46 (F := Ideal) (ix2 (⟨p.val / 64, by omega⟩ : Fin 32) (⟨j.val / 16, by omega⟩ : Fin 8)) * 31#32
      + val_main_v31 (F := Ideal) (ix2 (⟨p.val % 64, by omega⟩ : Fin 64) (⟨j.val % 16, by omega⟩ : Fin 16)) := by
    pointwise [val_main_v62, val_main_v61, val_main_v60, val_main_v59, val_main_v58, val_main_v57, val_main_v56, val_main_v55, val_main_c_8]
    rfl
  rw [h, dr_at, dc_at]
  show BitVec.ofNat 32 _ * BitVec.ofNat 32 31 + _ = _
  rw [← BitVec.ofNat_mul, ← BitVec.ofNat_add]
  rfl

theorem gk_at (p : Fin 2048) (j : Fin 128) : val_main_v68 (F := Ideal) (ix3 p j (0 : Fin 1)) = BitVec.ofNat 32 (keyN p.val j.val) := by
  have h : val_main_v68 (F := Ideal) (ix3 p j (0 : Fin 1)) = Scalar.select (IntOp.cmpi .slt (val_main_v54 (F := Ideal) (ix2 p j)) 0#32)
      (val_main_v66 (F := Ideal) (ix2 p j)) (val_main_v54 (F := Ideal) (ix2 p j)) := by
    pointwise [val_main_v68, val_main_v67, val_main_v64, val_main_v63, val_main_c_9]
  rw [h, key_at, wrap_small _ 0 (by have := keyN_lt p.isLt j.isLt; omega)]

theorem gv_at (p : Fin 2048) (j : Fin 128) : val_main_v75 (F := Ideal) (ix3 p j (0 : Fin 1)) = BitVec.ofNat 32 (keyN p.val j.val) := by
  have h : val_main_v75 (F := Ideal) (ix3 p j (0 : Fin 1)) = Scalar.select (IntOp.cmpi .slt (val_main_v54 (F := Ideal) (ix2 p j)) 0#32)
      (val_main_v73 (F := Ideal) (ix2 p j)) (val_main_v54 (F := Ideal) (ix2 p j)) := by
    pointwise [val_main_v75, val_main_v74, val_main_v71, val_main_v70, val_main_c_11]
  rw [h, key_at, wrap_small _ 0 (by have := keyN_lt p.isLt j.isLt; omega)]

theorem gb_at (p : Fin 2048) (j : Fin 128) : val_main_v87 (F := Ideal) (ix3 p j (0 : Fin 1)) = BitVec.ofNat 32 (offN p.val j.val) := by
  have h : val_main_v87 (F := Ideal) (ix3 p j (0 : Fin 1)) = Scalar.select (IntOp.cmpi .slt (val_main_v62 (F := Ideal) (ix2 p j)) 0#32)
      (val_main_v85 (F := Ideal) (ix2 p j)) (val_main_v62 (F := Ideal) (ix2 p j)) := by
    pointwise [val_main_v87, val_main_v86, val_main_v83, val_main_v82, val_main_c_13]
  rw [h, off_at, wrap_small _ 0 (by have := offN_lt p.isLt j.isLt; omega)]

abbrev gd := gather_S32x2048x8x64_S2048x128x1_S32x2048x128x8x64_034_1_n_n_1_2_321864

/-- The key gather reads the row its index names. -/
theorem gatherKV (x : FVec Ideal S32x2048x8x64 .f32) (idx : IVec S2048x128x1 32) (b : Fin 32) (p : Fin 2048) (j : Fin 128) (h : Fin 8) (d : Fin 64)
    (n : ℕ) (hn : n < 2048) (hi : idx (ix3 p j (0 : Fin 1)) = BitVec.ofNat 32 n) :
    Host.gather gd x idx (ix5 b p j h d) = x (ix4 b (⟨n, hn⟩ : Fin 2048) h d) := by
  unfold Host.gather
  congr 1
  funext a
  refine Fin.ext ?_
  show gd.start _ idx a + gd.batchCoord _ a + gd.offCoord _ a = _
  rw [GatherDims.batchCoord_eq_zero _ _ _ List.not_mem_nil]
  match a with
  | ⟨0, _⟩ =>
    show gd.start (ix5 b p j h d) idx (0 : Fin 4) + 0 + gd.offCoord (ix5 b p j h d) (0 : Fin 4) = _
    unfold GatherDims.start
    rw [dif_neg (by decide)]
    show 0 + 0 + b.val = b.val
    omega
  | ⟨1, _⟩ =>
    show gd.start (ix5 b p j h d) idx (1 : Fin 4) + 0 + gd.offCoord (ix5 b p j h d) (1 : Fin 4) = _
    rw [GatherDims.offCoord_eq_zero _ _ _ (fun h => ((GatherDims.mem_sKept _ _).mp h).1 (List.mem_singleton.mpr rfl))]
    unfold GatherDims.start
    rw [dif_pos (show (1 : Fin 4) ∈ gd.startIndexMap from List.mem_singleton.mpr rfl)]
    have hsi : gd.siIdx (ix5 b p j h d) ⟨List.idxOf (1 : Fin 4) gd.startIndexMap,
        List.idxOf_lt_length_iff.2 (List.mem_singleton.mpr rfl)⟩ = ix3 p j (0 : Fin 1) := by
      funext c; refine Fin.ext ?_
      match c with
      | ⟨0, _⟩ => rfl
      | ⟨1, _⟩ => rfl
      | ⟨2, _⟩ => rfl
    rw [hsi, hi, toInt_small n (by omega)]
    show min n (2048 - 1) + 0 + 0 = n
    omega
  | ⟨2, _⟩ =>
    show gd.start (ix5 b p j h d) idx (2 : Fin 4) + 0 + gd.offCoord (ix5 b p j h d) (2 : Fin 4) = _
    unfold GatherDims.start
    rw [dif_neg (by decide)]
    show 0 + 0 + h.val = h.val
    omega
  | ⟨3, _⟩ =>
    show gd.start (ix5 b p j h d) idx (3 : Fin 4) + 0 + gd.offCoord (ix5 b p j h d) (3 : Fin 4) = _
    unfold GatherDims.start
    rw [dif_neg (by decide)]
    show 0 + 0 + d.val = d.val
    omega

abbrev gd2 := gather_S8x465_S2048x128x1_S8x2048x128_0_1_n_n_1_2_81

/-- The bias gather likewise. -/
theorem gatherB (x : FVec Ideal S8x465 .f32) (idx : IVec S2048x128x1 32) (h : Fin 8) (p : Fin 2048) (j : Fin 128)
    (n : ℕ) (hn : n < 465) (hi : idx (ix3 p j (0 : Fin 1)) = BitVec.ofNat 32 n) :
    Host.gather gd2 x idx (ix3 h p j) = x (ix2 h (⟨n, hn⟩ : Fin 465)) := by
  unfold Host.gather
  congr 1
  funext a
  refine Fin.ext ?_
  show gd2.start _ idx a + gd2.batchCoord _ a + gd2.offCoord _ a = _
  rw [GatherDims.batchCoord_eq_zero _ _ _ List.not_mem_nil]
  match a with
  | ⟨0, _⟩ =>
    show gd2.start (ix3 h p j) idx (0 : Fin 2) + 0 + gd2.offCoord (ix3 h p j) (0 : Fin 2) = _
    unfold GatherDims.start
    rw [dif_neg (by decide)]
    show 0 + 0 + h.val = h.val
    omega
  | ⟨1, _⟩ =>
    show gd2.start (ix3 h p j) idx (1 : Fin 2) + 0 + gd2.offCoord (ix3 h p j) (1 : Fin 2) = _
    rw [GatherDims.offCoord_eq_zero _ _ _ (fun h => ((GatherDims.mem_sKept _ _).mp h).1 (List.mem_singleton.mpr rfl))]
    unfold GatherDims.start
    rw [dif_pos (show (1 : Fin 2) ∈ gd2.startIndexMap from List.mem_singleton.mpr rfl)]
    have hsi : gd2.siIdx (ix3 h p j) ⟨List.idxOf (1 : Fin 2) gd2.startIndexMap,
        List.idxOf_lt_length_iff.2 (List.mem_singleton.mpr rfl)⟩ = ix3 p j (0 : Fin 1) := by
      funext c; refine Fin.ext ?_
      match c with
      | ⟨0, _⟩ => rfl
      | ⟨1, _⟩ => rfl
      | ⟨2, _⟩ => rfl
    rw [hsi, hi, toInt_small n (by omega)]
    show min n (465 - 1) + 0 + 0 = n
    omega

end Cert.Reference3Ideal.Attn

end
-- ==== Proof.Attn.Pre.lean ====
module

public import proofs.«01_k».proof.Defs
public import proofs.«01_k».proof.Proof.Gen.Pre_fast_set
public import Idealize.ShloMosaic.Lib.Affine
public import Idealize.ShloMosaic.PureOps.Ideal.Laws
public import Idealize.ShloMosaic.Lib.Pipeline.ValueKit

/-!
# What the precondition says

The flag word is not zero.
-/

@[expose] public section

noncomputable section

namespace Cert.Pre_fast_set.Attn

open Cert.Pre_fast_set Cert.Pre_fast_set.Gen Idealize.ShloMosaic

variable {F : FTy → Type} [FloatOps F]

theorem ne_of_cmpi (x y : BitVec 32) (h : IntOp.cmpi .ne x y = 1#1) : x ≠ y := by
  intro e
  subst e
  revert h
  show BitVec.ofBool (x != x) = 1#1 → False
  simp

theorem flag (a0 : IVec S1 32) (a1 : FVec F S32x2048x1024 .f32) (a2 : FVec F S32x6144 .f32) (a3 : FVec F S32x2048x3072 .bf16)
    (a4 : FVec F S32x2048x2048 .bf16) (a5 : FVec F S8x15x31 .f32) (a6 a7 a8 a9 : FVec F S64 .f32) (a10 : FVec F S128 .f32)
    (a11 a12 : FVec F S512x1024 .f32) (a13 : FVec F S1024x1024 .f32)
    (h : fn a0 a1 a2 a3 a4 a5 a6 a7 a8 a9 a10 a11 a12 a13 = fun _ => 1#1) : ∀ i, a0 i ≠ 0#32 := by
  have e := congrFun h (fun k => k.elim0 : S_.Idx)
  have e2 := ne_of_cmpi _ _ e
  intro i
  have hi : i = S1.rowMajor.symm (Fin.cast (by decide) (S_.rowMajor (fun k => k.elim0 : S_.Idx))) := by
    funext a
    match a with
    | ⟨0, _⟩ => exact Subsingleton.elim (α := Fin 1) _ _
  rw [hi]
  exact e2

end Cert.Pre_fast_set.Attn

end
-- ==== Proof.Attn.HypsIdeal.lean ====
module

public import proofs.«01_k».proof.Proof.Attn.Pre
public import proofs.«01_k».proof.Proof.Gen.Kernel3Ideal.Frame.Runs

/-!
# The first grid point takes the fast path

The carried key and value windows are written at the first tile of a batch on the fast path only, so the frame needs the
flag word to be non-zero there; the precondition says so.
-/

@[expose] public section

noncomputable section

open Idealize.ShloMosaic Idealize.SL.Sem

namespace Cert.Kernel3Ideal.Attn

open Cert.Kernel3Ideal Cert.Kernel3Ideal.Gen

variable {F : FTy → Type} [FloatOps F]

theorem cond_of_ne (v : BitVec 32) (h : v ≠ 0#32) : ∀ i, cond0_0 i v := by
  have e : Scalar.cmpi .ne v 0#32 = 1#1 := by
    show BitVec.ofBool (v != 0#32) = 1#1
    rw [bne_iff_ne.2 h]
    rfl
  intro i
  show Scalar.cmpi .ne (Scalar.extui (Scalar.cmpi .ne v 0#32)) 0#32 = 1#1
  rw [e]
  decide

theorem hyps (m : (ℓ : Loc nD τ sig) → Buf (Elt F) ℓ) (hm : ∀ (c : Dev nD) i, m ((c.tc : Thread nD τ).loc main_arg0) i ≠ 0#32) : Hyps m := by
  have key : ∀ (c : Dev nD) (t : Fin cfg0.N), cond0_0 (grid0.coords t) ((ms0_0 t).view.readAt (Elt F) (Rect.unit (s := S1) ![0] S1.size inb_S1_S1_0).toLoadRect ((hs0_0 t).unread (iblk m c 0 t)) (Shape.Idx.first (numel1_S1.symm ▸ Nat.one_pos))) := by
    intro c t
    have rd : ∀ i, iblk m c 0 t i ≠ 0#32 := by
      intro i
      unfold iblk
      rw [View.read_apply, cast_eq]
      exact hm c _
    apply cond_of_ne _ _
    simp only [View.readAt_apply, Memref.IsWhole.read_unread]
    exact rd _
  exact Hyps.of (fun c t h => absurd (key c t) h) (fun c t h => absurd (key c t) h)

end Cert.Kernel3Ideal.Attn

end
-- ==== Proof.lean ====
module

public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Pre_fast_set
public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel1
public import proofs.«01_k».proof.Proof.Gen.Kernel1.Skeleton
public import proofs.«01_k».proof.Proof.Gen.Kernel1.Launch
public import proofs.«01_k».proof.Proof.Gen.Kernel1.Points
public import proofs.«01_k».proof.Proof.Gen.Kernel1.Frame
public import proofs.«01_k».proof.Proof.Gen.Kernel1Ideal
public import proofs.«01_k».proof.Proof.Gen.Kernel1Ideal.Skeleton
public import proofs.«01_k».proof.Proof.Gen.Kernel1Ideal.Launch
public import proofs.«01_k».proof.Proof.Gen.Kernel1Ideal.Points
public import proofs.«01_k».proof.Proof.Gen.Kernel1Ideal.Frame
public import proofs.«01_k».proof.Proof.Gen.Reference1Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel1Ideal.Value
public import proofs.«01_k».proof.Proof.Gen.Reference1Ideal.Run
public import proofs.«01_k».proof.Proof.Gen.Reference1Ideal.Read
public import proofs.«01_k».proof.Proof.Gen.Kernel0
public import proofs.«01_k».proof.Proof.Gen.Kernel0.Skeleton
public import proofs.«01_k».proof.Proof.Gen.Kernel0.Launch
public import proofs.«01_k».proof.Proof.Gen.Kernel0.Points
public import proofs.«01_k».proof.Proof.Gen.Kernel0.Frame
public import proofs.«01_k».proof.Proof.Gen.Kernel0Ideal
public import proofs.«01_k».proof.Proof.Gen.Kernel0Ideal.Skeleton
public import proofs.«01_k».proof.Proof.Gen.Kernel0Ideal.Launch
public import proofs.«01_k».proof.Proof.Gen.Kernel0Ideal.Points
public import proofs.«01_k».proof.Proof.Gen.Kernel0Ideal.Frame
public import proofs.«01_k».proof.Proof.Gen.Reference0Ideal
public import proofs.«01_k».proof.Proof.Gen.Kernel0Ideal.Value
public import proofs.«01_k».proof.Proof.Gen.Reference0Ideal.Run
public import proofs.«01_k».proof.Proof.Gen.Reference0Ideal.Read
public import proofs.«01_k».proof.Proof.Ffn.Final
public import proofs.«01_k».proof.Proof.Proj.Final
public import proofs.«01_k».proof.Proof.Adaln.Final
public import proofs.«01_k».proof.Proof.Attn.Math
public import proofs.«01_k».proof.Proof.Attn.RefIdx
public import proofs.«01_k».proof.Proof.Attn.Hyps
public import proofs.«01_k».proof.Proof.Attn.HypsIdeal
public import Idealize.ShloMosaic.Adequacy
public import Idealize.ShloMosaic.Init

@[expose] public section

noncomputable section

namespace Cert.Proof

open Idealize.ShloMosaic Idealize.SL.Sem Cert.Kernel2

theorem claim : Cert.Claim := ⟨Cert.Kernel2.Gen.facts, Cert.Kernel2Ideal.Gen.facts, Cert.Reference2Ideal.Gen.facts, Cert.Kernel1.Gen.facts, Cert.Kernel1Ideal.Gen.facts, Cert.Reference1Ideal.Gen.facts, Cert.Kernel0.Gen.facts, Cert.Kernel0Ideal.Gen.facts, Cert.Reference0Ideal.Gen.facts, Cert.Kernel3.Gen.facts, Cert.Kernel3Ideal.Gen.facts, Cert.Reference3Ideal.Gen.facts, Cert.Pre_fast_set.Gen.facts, by
  refine ⟨?_, ?_, ?_, ?_, ?_, ?_, ?_, ?_, ?_, ?_, ?_, ?_, trivial, ?_, trivial, ?_, trivial, ?_, trivial⟩
  · intro m g hpre
    run_from Cert.Kernel2.Gen.frame m g
  · intro m g hpre
    run_from Cert.Kernel2Ideal.Gen.frame m g
  · intro m g hpre
    run_from Cert.Reference2Ideal.Value.run m g
    · intro c
      exact ⟨trivial, trivial, trivial, trivial, trivial, trivial, trivial⟩
    · exact sem_eq_zero_of_no_sems rfl _
  · intro m g hpre
    run_from Cert.Kernel1.Gen.frame m g
  · intro m g hpre
    run_from Cert.Kernel1Ideal.Gen.frame m g
  · intro m g hpre
    run_from Cert.Reference1Ideal.Value.run m g
    · intro c
      exact ⟨trivial, trivial, trivial, trivial, trivial, trivial, trivial, trivial, trivial, trivial⟩
    · exact sem_eq_zero_of_no_sems rfl _
  · intro m g hpre
    run_from Cert.Kernel0.Gen.frame m g
  · intro m g hpre
    run_from Cert.Kernel0Ideal.Gen.frame m g
  · intro m g hpre
    run_from Cert.Reference0Ideal.Value.run m g
    · intro c
      exact ⟨trivial, trivial, trivial⟩
    · exact sem_eq_zero_of_no_sems rfl _
  · intro m g hpre
    run_from Cert.Kernel3.Gen.frame m g (Cert.Kernel3.Attn.hyps m fun c => Cert.Pre_fast_set.Attn.flag _ _ _ _ _ _ _ _ _ _ _ _ _ _ (hpre c))
  · intro m g hpre
    run_from Cert.Kernel3Ideal.Gen.frame m g (Cert.Kernel3Ideal.Attn.hyps m fun c => Cert.Pre_fast_set.Attn.flag _ _ _ _ _ _ _ _ _ _ _ _ _ _ (hpre c))
  · intro m g hpre
    run_from Cert.Reference3Ideal.Value.run m g
    · intro c
      exact ⟨trivial, trivial, trivial, trivial, trivial, trivial, trivial, trivial, trivial, trivial, trivial, trivial, trivial, trivial⟩
    · exact sem_eq_zero_of_no_sems rfl _
  · pair_intro
    · run_from Cert.Kernel2Ideal.Value.run_blocks m g
    · run_from Cert.Reference2Ideal.Value.run m' g'
      rw [Cert.Reference2Ideal.Read.val_main_v64_eq, Cert.Kernel2Ideal.Ffn.final]
      obtain ⟨h0, h1, h2, h3, h4, h5, h6⟩ := hagree c
      rw [h0, h1, h2, h3, h4, h5, h6]
  · pair_intro
    · run_from Cert.Kernel1Ideal.Value.run_blocks m g
    · run_from Cert.Reference1Ideal.Value.run m' g'
      · rw [Cert.Reference1Ideal.Read.val_main_v108_eq, Cert.Kernel1Ideal.Proj.final]
        obtain ⟨h0, h1, h2, h3, h4, h5, h6, h7, h8, h9⟩ := hagree c
        rw [h0, h1, h2, h3, h4, h5, h6, h7]
      · rw [Cert.Reference1Ideal.Read.val_main_v109_eq, Cert.Kernel1Ideal.Proj.final_gates]
  · pair_intro
    · run_from Cert.Kernel0Ideal.Value.run_blocks m g
    · run_from Cert.Reference0Ideal.Value.run m' g'
      rw [Cert.Reference0Ideal.Read.val_main_v4_eq, Cert.Kernel0Ideal.Adaln.final]⟩

end Cert.Proof

end
